-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10x15360x2048 : Shape := ⟨3, ![10, 15360, 2048]⟩
abbrev S10x120x2048 : Shape := ⟨3, ![10, 120, 2048]⟩
abbrev S10x15360x2304 : Shape := ⟨3, ![10, 15360, 2304]⟩
abbrev S10x120x2304 : Shape := ⟨3, ![10, 120, 2304]⟩
abbrev S2048x2304 : Shape := ⟨2, ![2048, 2304]⟩
abbrev S153600x2048 : Shape := ⟨2, ![153600, 2048]⟩
abbrev S1200x2048 : Shape := ⟨2, ![1200, 2048]⟩
abbrev S153600x2304 : Shape := ⟨2, ![153600, 2304]⟩
abbrev S1200x2304 : Shape := ⟨2, ![1200, 2304]⟩
abbrev S1024x2048 : Shape := ⟨2, ![1024, 2048]⟩
abbrev S8x2048 : Shape := ⟨2, ![8, 2048]⟩
abbrev S1024x2304 : Shape := ⟨2, ![1024, 2304]⟩
abbrev S8x2304 : Shape := ⟨2, ![8, 2304]⟩
abbrev S2048x1024 : Shape := ⟨2, ![2048, 1024]⟩
abbrev S_ : Shape := ⟨0, ![]⟩
abbrev S1024x256 : Shape := ⟨2, ![1024, 256]⟩
abbrev S8x256 : Shape := ⟨2, ![8, 256]⟩
abbrev S8x128x256 : Shape := ⟨3, ![8, 128, 256]⟩
abbrev S8x1x256 : Shape := ⟨3, ![8, 1, 256]⟩
abbrev S256x1024 : Shape := ⟨2, ![256, 1024]⟩
abbrev S2048x256 : Shape := ⟨2, ![2048, 256]⟩

abbrev nBuf : Space → Nat
  | .hbm => 10
  | .vmem => 10
  | .smem => 0
  | _ => 0

abbrev bufTy : (tb : Table) → Fin (tcTables nBuf tb) → BufTy
  | .hbm, ⟨0, _⟩ => ⟨S10x15360x2048, .fp8e4m3⟩
  | .hbm, ⟨1, _⟩ => ⟨S10x120x2048, .f32⟩
  | .hbm, ⟨2, _⟩ => ⟨S10x15360x2304, .fp8e5m2⟩
  | .hbm, ⟨3, _⟩ => ⟨S10x120x2304, .f32⟩
  | .hbm, ⟨4, _⟩ => ⟨S2048x2304, .f32⟩
  | .hbm, ⟨5, _⟩ => ⟨S153600x2048, .fp8e4m3⟩
  | .hbm, ⟨6, _⟩ => ⟨S1200x2048, .f32⟩
  | .hbm, ⟨7, _⟩ => ⟨S153600x2304, .fp8e5m2⟩
  | .hbm, ⟨8, _⟩ => ⟨S1200x2304, .f32⟩
  | .hbm, ⟨9, _⟩ => ⟨S2048x2304, .f32⟩
  | .local _ .vmem, ⟨0, _⟩ => ⟨S1024x2048, .fp8e4m3⟩
  | .local _ .vmem, ⟨1, _⟩ => ⟨S1024x2048, .fp8e4m3⟩
  | .local _ .vmem, ⟨2, _⟩ => ⟨S8x2048, .f32⟩
  | .local _ .vmem, ⟨3, _⟩ => ⟨S8x2048, .f32⟩
  | .local _ .vmem, ⟨4, _⟩ => ⟨S1024x2304, .fp8e5m2⟩
  | .local _ .vmem, ⟨5, _⟩ => ⟨S1024x2304, .fp8e5m2⟩
  | .local _ .vmem, ⟨6, _⟩ => ⟨S8x2304, .f32⟩
  | .local _ .vmem, ⟨7, _⟩ => ⟨S8x2304, .f32⟩
  | .local _ .vmem, ⟨8, _⟩ => ⟨S2048x2304, .f32⟩
  | .local _ .vmem, ⟨9, _⟩ => ⟨S2048x1024, .bf16⟩
  | _, _ => ⟨S10x15360x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![150], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c256_i32 : BitVec 32 := 256#32
  let v8 : BitVec 32 := Scalar.muli arg10 c256_i32
  v8
def k0_off1 (k0_t1 : Fin k0_t1_loop.trips) : Fin 2 → Nat :=
  let c0 : Index := 0#32
  let c0_i32_1 : BitVec 32 := 0#32
  let c1_i32 : BitVec 32 := 1#32
  let arg10 : BitVec 32 := Scf.iv c0_i32_1 c1_i32 k0_t1
  let c256_i32 : BitVec 32 := 256#32
  let v8 : BitVec 32 := Scalar.muli arg10 c256_i32
  let v9 : BitVec 32 := v8
  let v10 : Index := Scalar.indexCast v9
  ![0, v10.toNat]
def k0_off2 (k0_t1 : Fin k0_t1_loop.trips) : Fin 2 → Nat :=
  let c0_7 : Index := 0#32
  let c0_i32_1 : BitVec 32 := 0#32
  let c1_i32 : BitVec 32 := 1#32
  let arg10 : BitVec 32 := Scf.iv c0_i32_1 c1_i32 k0_t1
  let c256_i32 : BitVec 32 := 256#32
  let v8 : BitVec 32 := Scalar.muli arg10 c256_i32
  let v9 : BitVec 32 := v8
  let v13 : Index := Scalar.indexCast v9
  ![0, v13.toNat]
def k0_off3 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c256_i32 : BitVec 32 := 256#32
  let v8 : BitVec 32 := Scalar.muli arg10 c256_i32
  let v9 : BitVec 32 := v8
  let v24 : Index := Scalar.indexCast v9
  let c0_8 : Index := 0#32
  ![v24.toNat, 0]
@[reducible] def k0_t2_loop : Scf.Loop 32 :=
  let c0_i32_3 : BitVec 32 := 0#32
  let c9_i32 : BitVec 32 := 9#32
  let v4 : BitVec 32 := Scalar.addi c0_i32_3 c9_i32
  let c1_i32_4 : BitVec 32 := 1#32
  ⟨c0_i32_3, v4, c1_i32_4⟩
def k0_mult2 (k0_t2 : Fin k0_t2_loop.trips) : BitVec 32 :=
  let c0_i32_3 : BitVec 32 := 0#32
  let c1_i32_4 : BitVec 32 := 1#32
  let arg10 : BitVec 32 := Scf.iv c0_i32_3 c1_i32_4 k0_t2
  let c256_i32 : BitVec 32 := 256#32
  let v8 : BitVec 32 := Scalar.muli arg10 c256_i32
  v8
def k0_off4 (k0_t2 : Fin k0_t2_loop.trips) : Fin 2 → Nat :=
  let c0 : Index := 0#32
  let c0_i32_3 : BitVec 32 := 0#32
  let c1_i32_4 : BitVec 32 := 1#32
  let arg10 : BitVec 32 := Scf.iv c0_i32_3 c1_i32_4 k0_t2
  let c256_i32 : BitVec 32 := 256#32
  let v8 : BitVec 32 := Scalar.muli arg10 c256_i32
  let v9 : BitVec 32 := v8
  let v10 : Index := Scalar.indexCast v9
  ![0, v10.toNat]
def k0_off5 (k0_t2 : Fin k0_t2_loop.trips) : Fin 2 → Nat :=
  let c0_7 : Index := 0#32
  let c0_i32_3 : BitVec 32 := 0#32
  let c1_i32_4 : BitVec 32 := 1#32
  let arg10 : BitVec 32 := Scf.iv c0_i32_3 c1_i32_4 k0_t2
  let c256_i32 : BitVec 32 := 256#32
  let v8 : BitVec 32 := Scalar.muli arg10 c256_i32
  let v9 : BitVec 32 := v8
  let v13 : Index := Scalar.indexCast v9
  ![0, v13.toNat]
def k0_off6 (k0_t2 : Fin k0_t2_loop.trips) : Fin 2 → Nat :=
  let c0_8 : Index := 0#32
  let c0_i32_3 : BitVec 32 := 0#32
  let c1_i32_4 : BitVec 32 := 1#32
  let arg10 : BitVec 32 := Scf.iv c0_i32_3 c1_i32_4 k0_t2
  let c256_i32 : BitVec 32 := 256#32
  let v8 : BitVec 32 := Scalar.muli arg10 c256_i32
  let v9 : BitVec 32 := v8
  let v23 : Index := Scalar.indexCast v9
  ![0, v23.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2304 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S10x15360x2048 : Shape := ⟨3, ![10, 15360, 2048]⟩
abbrev S10x120x2048 : Shape := ⟨3, ![10, 120, 2048]⟩
abbrev S10x15360x2304 : Shape := ⟨3, ![10, 15360, 2304]⟩
abbrev S10x120x2304 : Shape := ⟨3, ![10, 120, 2304]⟩
abbrev S2048x2304 : Shape := ⟨2, ![2048, 2304]⟩
abbrev S10x120x128x2048 : Shape := ⟨4, ![10, 120, 128, 2048]⟩
abbrev S10x120x1x2048 : Shape := ⟨4, ![10, 120, 1, 2048]⟩
abbrev S10x120x128x2304 : Shape := ⟨4, ![10, 120, 128, 2304]⟩
abbrev S10x120x1x2304 : Shape := ⟨4, ![10, 120, 1, 2304]⟩

abbrev nBuf : Space → Nat
  | .hbm => 6
  | .vmem => 6
  | .smem => 0
  | _ => 0

abbrev bufTy : (tb : Table) → Fin (tcTables nBuf tb) → BufTy
  | .hbm, ⟨0, _⟩ => ⟨S10x15360x2048, .fp8e4m3⟩
  | .hbm, ⟨1, _⟩ => ⟨S10x120x2048, .f32⟩
  | .hbm, ⟨2, _⟩ => ⟨S10x15360x2304, .fp8e5m2⟩
  | .hbm, ⟨3, _⟩ => ⟨S10x120x2304, .f32⟩
  | .hbm, ⟨4, _⟩ => ⟨S2048x2304, .f32⟩
  | .hbm, ⟨5, _⟩ => ⟨S2048x2304, .f32⟩
  | .local _ .vmem, ⟨0, _⟩ => ⟨S10x15360x2048, .fp8e4m3⟩
  | .local _ .vmem, ⟨1, _⟩ => ⟨S10x120x2048, .f32⟩
  | .local _ .vmem, ⟨2, _⟩ => ⟨S10x15360x2304, .fp8e5m2⟩
  | .local _ .vmem, ⟨3, _⟩ => ⟨S10x120x2304, .f32⟩
  | .local _ .vmem, ⟨4, _⟩ => ⟨S2048x2304, .f32⟩
  | .local _ .vmem, ⟨5, _⟩ => ⟨S2048x2304, .f32⟩
  | _, _ => ⟨S10x15360x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S10x15360x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x120x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x15360x2304 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x120x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Cover.lean ====
/-
  Hand-written, untrusted. THE FIRST LOOP OVERWRITES ALL OF ITS SCRATCH: the eight trips store rows `[256 k, 256 k + 256)`
  of the transposed activations, which are all 2048 rows, so what the scratch holds after the loop does not depend on what
  it held before. The body's run needs that: the second loop reads the scratch, and its result must be stated without the
  scratch's contents at the start of a grid point, which nothing is known of.
-/
module

public import proofs.«01_k».proof.Proof.Gen.Kernel.Loops
public import Idealize.ShloMosaic.Lib.Pipeline.Value

@[expose] public section

noncomputable section

namespace Cert.Kernel.Hand

open Idealize.ShloMosaic Idealize.ShloMosaic.TcCoe Cert.Kernel Cert.Kernel.Gen

variable {F : FTy → Type} [FloatOps F]

section Trips

variable (𝒱 : Variants) (c : Dev nD) (bd : Option 𝒱.V) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg5 : Memref sig .tc .hbm S2048x2304 .f32) (harg5 : arg5.IsWhole) (arg6 : Memref sig .tc .hbm S2048x2304 .f32) (harg6 : arg6.IsWhole) (arg7 : Memref sig .tc .vmem S2048x2304 .f32) (harg7 : arg7.IsWhole) (arg8 : Memref sig .tc .vmem S2048x1024 .bf16) (harg8 : arg8.IsWhole) (arg9 : DmaSems sig S_) (X_arg1 : BufTy.Contents (Elt F) arg1.view.ty) (X_arg2 : BufTy.Contents (Elt F) arg2.view.ty)

/-- One trip stores one piece: rows `[256 k, 256 k + 256)`, holding the payload of the activations and scales it loads. -/
theorem tripL1_eq (k : Fin k0_t1_loop.trips) :
    tripL_k0_t1 (F := F) 𝒱 c bd i arg1 harg1 arg2 harg2 arg3 harg3 arg4 harg4 arg5 harg5 arg6 harg6 arg7 harg7 arg8 harg8 arg9 X_arg1 X_arg2 k
      = [⟨Rect.unit (s := S2048x1024) (k0_off3 k) S256x1024.size (k0_off3_inb k),
          k0_pay1 (arg1.view.readAt (Elt F) (Rect.unit (s := S1024x2048) (k0_off1 k) S1024x256.size (k0_off1_inb k)).toLoadRect X_arg1)
            (arg2.view.readAt (Elt F) (Rect.unit (s := S8x2048) (k0_off2 k) S8x256.size (k0_off2_inb k)).toLoadRect X_arg2)⟩] := by
  unfold tripL_k0_t1 trip_k0_t1
  rfl

/-- After `n` trips the pieces cover the rows below `256 n`. -/
theorem pb1_cover (n : ℕ) (hn : n ≤ k0_t1_loop.trips) (y : S2048x1024.Idx) (hy : (y 0).val < 256 * n) :
    ∃ p ∈ pb_k0_t1 (F := F) 𝒱 c bd i arg1 harg1 arg2 harg2 arg3 harg3 arg4 harg4 arg5 harg5 arg6 harg6 arg7 harg7 arg8 harg8 arg9 X_arg1 X_arg2 n, y ∈ p.1.set := by
  induction n with
  | zero => omega
  | succ n ih =>
    have e := pb_k0_t1_succ (F := F) 𝒱 c bd i arg1 harg1 arg2 harg2 arg3 harg3 arg4 harg4 arg5 harg5 arg6 harg6 arg7 harg7 arg8 harg8 arg9 X_arg1 X_arg2 ⟨n, hn⟩
    dsimp only at e
    rw [e, tripL1_eq]
    by_cases h : (y 0).val < 256 * n
    · obtain ⟨p, hp, hm⟩ := ih (by omega) h
      exact ⟨p, List.mem_append_right _ hp, hm⟩
    · refine ⟨_, List.mem_append_left _ (List.mem_singleton_self _), ?_⟩
      rw [Rect.mem_set_unit, k0_off3_eq]
      have h1 : (y 1).val < 1024 := (y 1).isLt
      intro a
      match a with
      | ⟨0, _⟩ => exact ⟨show 256 * n ≤ (y 0).val by omega, show (y 0).val < 256 * n + 256 by omega⟩
      | ⟨1, _⟩ => exact ⟨Nat.zero_le _, show (y 1).val < 0 + 1024 by omega⟩

/-- The loop makes eight trips. -/
theorem trips1 : k0_t1_loop.trips = 8 := by decide +kernel

/-- THE SCRATCH AFTER THE LOOP is the same whatever it held before. -/
theorem writes1_eq (f g : BufTy.Contents (Elt F) arg8.view.ty) :
    arg8.view.writes (Elt F) f (pb_k0_t1 (F := F) 𝒱 c bd i arg1 harg1 arg2 harg2 arg3 harg3 arg4 harg4 arg5 harg5 arg6 harg6 arg7 harg7 arg8 harg8 arg9 X_arg1 X_arg2 (Scf.trips k0_t1_loop.lb k0_t1_loop.ub k0_t1_loop.st))
      = arg8.view.writes (Elt F) g (pb_k0_t1 (F := F) 𝒱 c bd i arg1 harg1 arg2 harg2 arg3 harg3 arg4 harg4 arg5 harg5 arg6 harg6 arg7 harg7 arg8 harg8 arg9 X_arg1 X_arg2 (Scf.trips k0_t1_loop.lb k0_t1_loop.ub k0_t1_loop.st)) := by
  refine (harg8.eq_unread (X := arg8.view.read (Elt F) (arg8.view.writes (Elt F) g _)) ?_).trans (harg8.eq_unread rfl).symm
  funext y
  have hy : (y 0).val < 2048 := (y 0).isLt
  exact View.read_writes_apply_eq _ _ _ _ _ _ (pb1_cover (F := F) 𝒱 c bd i arg1 harg1 arg2 harg2 arg3 harg3 arg4 harg4 arg5 harg5 arg6 harg6 arg7 harg7 arg8 harg8 arg9 X_arg1 X_arg2 _ le_rfl y (by have := trips1; omega))

end Trips

end Cert.Kernel.Hand

end
-- ==== Proof.Kernel.RunA.lean ====
/-
  Hand-written, untrusted (the generated run of this case with one step added). THE BODY'S RUN, CASE A: the first grid point, which fetches the accumulator.
  The added step is the rewrite by `writes1_eq`: before the accumulator is handed over, the transposed activations in the
  scratch are restated over arbitrary contents, since the first loop overwrites all of it. Without it the pieces written to
  the accumulator would mention what the scratch held when the point began.
-/
module

public import proofs.«01_k».proof.Proof.Gen.Kernel.Frame.Runs
public import proofs.«01_k».proof.Proof.Kernel.Cover

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the HBM operands it copies from whole at their launch contents `fh·`, those it writes back into whole at some contents, its DMA cells at zero and the core's `owes`, the body runs to the continuation holding the inputs' as they were,
    a carried scratch it stored into with its pieces written (`LS·`), the other scratch at some contents, the HBM operands it copies from and the cells as they were, those it writes into at some contents (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : cond0_0 i) (hc1 : ¬cond0_1 i)
    (x0 : Vec F S1024x2048 .fp8e4m3) (x1 : Vec F S8x2048 .f32) (x2 : Vec F S1024x2304 .fp8e5m2) (x3 : Vec F S8x2304 .f32) (fh0 : HbBuf0 (F := F) c hbM0_0) :
    { LS0 : List (View.Piece (Elt F) S2048x2304 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ semVal ((c : Thread nD τ), SemLoc.dma 8) 0 ∗ hbPt0 c hbM0_0 fh0 ∗ (∃ f, hbPt0 c hbM0_1 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ d, owns (c : Thread nD τ) arg8 fullShare d) ∗ semVal ((c : Thread nD τ), SemLoc.dma 8) 0 ∗ hbPt0 c hbM0_0 fh0 ∗ (∃ f, hbPt0 c hbM0_1 f) ∗ (∃ W', owes (c : Thread nD τ) 0 W')) -∗ K ⟨⟩))
          ⊢ wp frame (wpE (defs₀ (F := F)) Variants.none c none) Set.univ (cc0__body i arg1 harg1 arg2 harg2 arg3 harg3 arg4 harg4 (Memref.whole main_arg4) (Memref.isWhole_whole _) (Memref.whole main_v4) (Memref.isWhole_whole _) arg7 harg7 arg8 harg8 cc0_scratch2) K } := by
  refine ⟨?_, fun W K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hq0, Hh0, ⟨%fw1, Hh1⟩, HW, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    rw [writes1_eq (f := fs1) (g := arg8.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]
    · iexists _, _; isplitr; swap; · iexact HS1
      ipureintro; rfl
    isplitl [Hq0]; · iexact Hq0
    isplitl [Hh0]; · iexact Hh0
    isplitl [Hh1]; · iexists _; iexact Hh1
    iexists _; iexact HW

end Cert.Kernel.Hand

end
-- ==== Proof.Kernel.RunB.lean ====
/-
  Hand-written, untrusted (the generated run of this case with one step added). THE BODY'S RUN, CASE B: a middle grid point.
  The added step is the rewrite by `writes1_eq`: before the accumulator is handed over, the transposed activations in the
  scratch are restated over arbitrary contents, since the first loop overwrites all of it. Without it the pieces written to
  the accumulator would mention what the scratch held when the point began.
-/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 148: 148 of 150), WITH the
    proof that on whole staging memrefs — the inputs' at their contents, the other outputs' at
    anything, a carried scratch at the contents the point before left (`xs·`) or at anything, the other scratch at anything, the HBM operands it copies from whole at their launch contents `fh·`, those it writes back into whole at some contents, its DMA cells at zero and the core's `owes`, the body runs to the continuation holding the inputs' as they were,
    a carried scratch it stored into with its pieces written (`LS·`), the other scratch at some contents, the HBM operands it copies from and the cells as they were, those it writes into at some contents (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : ¬cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) :
    { LS0 : List (View.Piece (Elt F) S2048x2304 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare xs0 ∗ (∃ d, owns (c : Thread nD τ) arg8 fullShare d) ∗ semVal ((c : Thread nD τ), SemLoc.dma 8) 0 ∗ hbPt0 c hbM0_0 fh0 ∗ (∃ f, hbPt0 c hbM0_1 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ d, owns (c : Thread nD τ) arg8 fullShare d) ∗ semVal ((c : Thread nD τ), SemLoc.dma 8) 0 ∗ hbPt0 c hbM0_0 fh0 ∗ (∃ f, hbPt0 c hbM0_1 f) ∗ (∃ W', owes (c : Thread nD τ) 0 W')) -∗ K ⟨⟩))
          ⊢ wp frame (wpE (defs₀ (F := F)) Variants.none c none) Set.univ (cc0__body i arg1 harg1 arg2 harg2 arg3 harg3 arg4 harg4 (Memref.whole main_arg4) (Memref.isWhole_whole _) (Memref.whole main_v4) (Memref.isWhole_whole _) arg7 harg7 arg8 harg8 cc0_scratch2) K } := by
  refine ⟨?_, fun W K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, Hq0, Hh0, ⟨%fw1, Hh1⟩, HW, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0 | sl_exact hc1)
    sl_step
    rw [writes1_eq (f := fs1) (g := arg8.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]
    · iexists _, _; isplitr; swap; · iexact HS1
      ipureintro; rfl
    isplitl [Hq0]; · iexact Hq0
    isplitl [Hh0]; · iexact Hh0
    isplitl [Hh1]; · iexists _; iexact Hh1
    iexists _; iexact HW

end Cert.Kernel.Hand

end
-- ==== Proof.Kernel.RunC.lean ====
/-
  Hand-written, untrusted (the generated run of this case with one step added). THE BODY'S RUN, CASE C: the last grid point, which writes the accumulator out.
  The added step is the rewrite by `writes1_eq`: before the accumulator is handed over, the transposed activations in the
  scratch are restated over arbitrary contents, since the first loop overwrites all of it. Without it the pieces written to
  the accumulator would mention what the scratch held when the point began.
-/
module

public import proofs.«01_k».proof.Proof.Kernel.RunB

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 149), WITH the
    proof that on whole staging memrefs — the inputs' at their contents, the other outputs' at
    anything, a carried scratch at the contents the point before left (`xs·`) or at anything, the other scratch at anything, the HBM operands it copies from whole at their launch contents `fh·`, those it writes back into whole at some contents, its DMA cells at zero and the core's `owes`, the body runs to the continuation holding the inputs' as they were,
    a carried scratch it stored into with its pieces written (`LS·`), the other scratch at some contents, the HBM operands it copies from and the cells as they were, those it writes into at some contents (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) :
    { LS0 : List (View.Piece (Elt F) S2048x2304 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare xs0 ∗ (∃ d, owns (c : Thread nD τ) arg8 fullShare d) ∗ semVal ((c : Thread nD τ), SemLoc.dma 8) 0 ∗ hbPt0 c hbM0_0 fh0 ∗ (∃ f, hbPt0 c hbM0_1 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ d, owns (c : Thread nD τ) arg8 fullShare d) ∗ semVal ((c : Thread nD τ), SemLoc.dma 8) 0 ∗ hbPt0 c hbM0_0 fh0 ∗ (∃ f, hbPt0 c hbM0_1 f) ∗ (∃ W', owes (c : Thread nD τ) 0 W')) -∗ K ⟨⟩))
          ⊢ wp frame (wpE (defs₀ (F := F)) Variants.none c none) Set.univ (cc0__body i arg1 harg1 arg2 harg2 arg3 harg3 arg4 harg4 (Memref.whole main_arg4) (Memref.isWhole_whole _) (Memref.whole main_v4) (Memref.isWhole_whole _) arg7 harg7 arg8 harg8 cc0_scratch2) K } := by
  refine ⟨?_, fun W K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, Hq0, Hh0, ⟨%fw1, Hh1⟩, HW, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0 | sl_exact hc1)
    sl_step
    rw [writes1_eq (f := fs1) (g := arg8.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]
    · iexists _, _; isplitr; swap; · iexact HS1
      ipureintro; rfl
    isplitl [Hq0]; · iexact Hq0
    isplitl [Hh0]; · iexact Hh0
    isplitl [Hh1]; · iexists _; iexact Hh1
    iexists _; iexact HW

end Cert.Kernel.Hand

end
-- ==== Proof.Kernel.Frame.lean ====
/-
  Hand-written, untrusted (the generated frame certificate, over the runs of `Run{A,B,C}.lean`). THE FRAME: the whole run
  of the program from the body's three runs. What the accumulator holds after each grid point is carried from point to point.
-/
module

public import proofs.«01_k».proof.Proof.Kernel.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for scratch `arg7`, which the kernel carries between points, cover it: one of them a store of the WHOLE buffer (Lib/Ring.lean `sl_whole_mem`). -/
theorem scover0_A_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : cond0_0 i) (hc1 : ¬cond0_1 i)
    (x0 : Vec F S1024x2048 .fp8e4m3) (x1 : Vec F S8x2048 .f32) (x2 : Vec F S1024x2304 .fp8e5m2) (x3 : Vec F S8x2304 .f32) (fh0 : HbBuf0 (F := F) c hbM0_0) (y : S2048x2304.Idx) :
    ∃ pc ∈ (kernelRun0_A c i arg1 harg1 arg2 harg2 arg3 harg3 arg4 harg4 arg7 harg7 arg8 harg8 hc0 hc1 x0 x1 x2 x3 fh0).1, y ∈ pc.1.set :=
  View.cover_of_wholeMem (kernelRun0_A c i arg1 harg1 arg2 harg2 arg3 harg3 arg4 harg4 arg7 harg7 arg8 harg8 hc0 hc1 x0 x1 x2 x3 fh0).1 (by sl_whole_mem) y

/-- What case A leaves in scratch `arg7`: its pieces read back over junk. -/
def sout0_A_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : cond0_0 i) (hc1 : ¬cond0_1 i)
    (x0 : Vec F S1024x2048 .fp8e4m3) (x1 : Vec F S8x2048 .f32) (x2 : Vec F S1024x2304 .fp8e5m2) (x3 : Vec F S8x2304 .f32) (fh0 : HbBuf0 (F := F) c hbM0_0) : Vec F S2048x2304 .f32 :=
  VS0_0.read (Elt F) (VS0_0.writes (Elt F) VS0_0.junk (kernelRun0_A c i arg1 harg1 arg2 harg2 arg3 harg3 arg4 harg4 arg7 harg7 arg8 harg8 hc0 hc1 x0 x1 x2 x3 fh0).1)

/-- Case B's pieces for scratch `arg7`, which the kernel carries between points, cover it: 9 pieces of `S2048x256` tiling it (Lib/Ring.lean `Piece.tiledL`). -/
theorem scover0_B_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : ¬cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (y : S2048x2304.Idx) :
    ∃ pc ∈ (kernelRun0_B c i arg1 harg1 arg2 harg2 arg3 harg3 arg4 harg4 arg7 harg7 arg8 harg8 hc0 hc1 x0 x1 x2 x3 xs0 fh0).1, y ∈ pc.1.set :=
  View.cover_of_tiledL (kernelRun0_B c i arg1 harg1 arg2 harg2 arg3 harg3 arg4 harg4 arg7 harg7 arg8 harg8 hc0 hc1 x0 x1 x2 x3 xs0 fh0).1 S2048x256.size (by sl_kernel_rfl) y

/-- What case B leaves in scratch `arg7`: its pieces read back over junk. -/
def sout0_B_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : ¬cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) : Vec F S2048x2304 .f32 :=
  VS0_0.read (Elt F) (VS0_0.writes (Elt F) VS0_0.junk (kernelRun0_B c i arg1 harg1 arg2 harg2 arg3 harg3 arg4 harg4 arg7 harg7 arg8 harg8 hc0 hc1 x0 x1 x2 x3 xs0 fh0).1)

/-- Case C's pieces for scratch `arg7`, which the kernel carries between points, cover it: 9 pieces of `S2048x256` tiling it (Lib/Ring.lean `Piece.tiledL`). -/
theorem scover0_C_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (y : S2048x2304.Idx) :
    ∃ pc ∈ (kernelRun0_C c i arg1 harg1 arg2 harg2 arg3 harg3 arg4 harg4 arg7 harg7 arg8 harg8 hc0 hc1 x0 x1 x2 x3 xs0 fh0).1, y ∈ pc.1.set :=
  View.cover_of_tiledL (kernelRun0_C c i arg1 harg1 arg2 harg2 arg3 harg3 arg4 harg4 arg7 harg7 arg8 harg8 hc0 hc1 x0 x1 x2 x3 xs0 fh0).1 S2048x256.size (by sl_kernel_rfl) y

/-- What case C leaves in scratch `arg7`: its pieces read back over junk. -/
def sout0_C_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) : Vec F S2048x2304 .f32 :=
  VS0_0.read (Elt F) (VS0_0.writes (Elt F) VS0_0.junk (kernelRun0_C c i arg1 harg1 arg2 harg2 arg3 harg3 arg4 harg4 arg7 harg7 arg8 harg8 hc0 hc1 x0 x1 x2 x3 xs0 fh0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x2304 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4)
  | n + 1, hn =>
    if h0 : (n + 1) % 150 = 0 then
      if h1 : (n + 1) % 150 = 149 then
        False.elim (by have hN : n + 1 < 150 := lt_of_lt_of_eq hn (show cfg0.N = 150 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4)
    else
      if h1 : (n + 1) % 150 = 149 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)) (V m c main_arg4)
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)) (V m c main_arg4)

/-- `outsAt0` at a point of case A: that case's contents. -/
theorem outsAt0_A (c : Dev nD) (t : Fin cfg0.N) (h0 : t.val % 150 = 0) (h1 : ¬t.val % 150 = 149) :
    outsAt0 m c t.val t.isLt = sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_arg4) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 150 = 0) (h1 : ¬t.val % 150 = 149) :
    outsAt0 m c t.val t.isLt = sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)) (V m c main_arg4) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 150 = 0) (h1 : t.val % 150 = 149) :
    outsAt0 m c t.val t.isLt = sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)) (V m c main_arg4) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/Frame.lean `ΦDR`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦDR osem0 spec0 H0 R0 (V m) c
  | n + 1, hn => iprop(iprop(owns (c : Thread nD τ) scM0_0 fullShare ((outsAt0 m c n hn)) ∗ (∃ d, owns (c : Thread nD τ) scM0_1 fullShare d)) ∗ (∃ r, prngReg c r) ∗ iprop(semVal ((c : Thread nD τ), SemLoc.dma 8) 0) ∗ iprop(hbPt0 c hbM0_0 (V m c main_arg4)) ∗ iprop((∃ f, hbPt0 c hbM0_1 f)))

/-- The written operand's points-to at some contents (`Pipeline.owned`), listed. -/
theorem ownedPts0_eq (c : Dev nD) :
    (Pipeline.owned R0 c : sProp 𝕄) = iprop(∃ f, hbPt0 (F := F) c hbM0_1 f) := by
  unfold Pipeline.owned; rw [BI.bigSep_eq_bigSepL_of_eq [main_v4] (by decide) (by decide)]; rfl

/-- The invariant before the first point, conjunct by conjunct: the scratch operands at some contents, the generator register
    at some state, the own cell at zero, the operand read at its launch contents, the operand written at some contents. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 8) 0) ∗ iprop(hbPt0 c hbM0_0 (V m c main_arg4)) ∗ iprop(∃ f, hbPt0 c hbM0_1 f)) := by
  rw [Pipeline.ΦDR_eq, scopedRest0_eq, ownSems00_eq, hbmPts0_eq, ownedPts0_eq]; simp only [scM0_0, scM0_1, owns_whole]; try rfl

/-- Before the first grid point the invariant is the launch's. -/
theorem PhiS_zero (c : Dev nD) (n : ℕ) (h : n ≤ cfg0.N) (hz : n = 0) : PhiS m c n h = Pipeline.ΦDR osem0 spec0 H0 R0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r) ∗ iprop(semVal ((c : Thread nD τ), SemLoc.dma 8) 0) ∗ iprop(hbPt0 c hbM0_0 (V m c main_arg4)) ∗ iprop((∃ f, hbPt0 c hbM0_1 f))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r) ∗ iprop(semVal ((c : Thread nD τ), SemLoc.dma 8) 0) ∗ iprop(hbPt0 c hbM0_0 (V m c main_arg4)) ∗ iprop((∃ f, hbPt0 c hbM0_1 f))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- A grid point leaves its block of the activation scales as it was. -/
theorem after0_1 (c : Dev nD) (t : Fin cfg0.N) : (dats m 0 c).after 1 t = iblk m c 1 t := by dsimp only [dats]
/-- A grid point leaves its block of the gradient codes as it was. -/
theorem after0_2 (c : Dev nD) (t : Fin cfg0.N) : (dats m 0 c).after 2 t = iblk m c 2 t := by dsimp only [dats]
/-- A grid point leaves its block of the gradient scales as it was. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A grid point finds its block of the activation scales in the staging memref. -/
theorem before0_1 (c : Dev nD) (t : Fin cfg0.N) (d) : (dats m 0 c).before 1 t d = iblk m c 1 t :=
  before0_1_of m (dats m 0 c) (A_eq m c 1) (after0_1 m c) t d
/-- A grid point finds its block of the gradient codes in the staging memref. -/
theorem before0_2 (c : Dev nD) (t : Fin cfg0.N) (d) : (dats m 0 c).before 2 t d = iblk m c 2 t :=
  before0_2_of m (dats m 0 c) (A_eq m c 2) (after0_2 m c) t d
/-- A grid point finds its block of the gradient scales in the staging memref. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4800000 in
/-- The body at any point: the inputs' memrefs hold their blocks (`before0_W`); the closed forms say which case the point is in (`by_cases`), an output the case reads before covering holds what the point before left (`before0_W_κ`); so the
    run applies; the invariant (`PhiDR0_eq`) hands the body its scratch, the register, its DMA cells at zero, the HBM operands it reads and those it writes, and takes them back — the written ones at whatever the point left, the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3]
  unfold Dat.owesAt Pipeline.owesWithin
  rw [show (dats m 0 c).owed t.castSucc = 0 from rfl, show (dats m 0 c).owed t.succ = 0 from rfl]
  have hN : t.val < 150 := lt_of_lt_of_eq t.isLt (show cfg0.N = 150 from N_0)
  by_cases h0 : t.val % 150 = 0
  · by_cases h1 : t.val % 150 = 149
    · exfalso; omega
    · by_cases hz : t.val = 0
      · rw [PhiS_castSucc m c t, PhiS_zero m c _ _ hz, PhiDR0_eq]
        rw [outsAt0_A m c t h0 h1]
        unfold sout0_A_0
        iintro ⟨⟨⟨HS0, HS1⟩, Hg, Hq0, Hh0, Hh1⟩, ⟨%W, -, HW⟩, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t) (V m c main_arg4)).2 W _)
        isplitl [H0]; · iexact H0
        isplitl [H1]; · iexact H1
        isplitl [H2]; · iexact H2
        isplitl [H3]; · iexact H3
        isplitl [HS0]; · iexact HS0
        isplitl [HS1]; · iexact HS1
        isplitl [Hq0]; · iexact Hq0
        isplitl [Hh0]; · iexact Hh0
        isplitl [Hh1]; · iexact Hh1
        isplitl [HW]; · iexact HW
        iintro ⟨H0, H1, H2, H3, ⟨%es0, HS0⟩, HS1, Hq0, Hh0, Hh1, ⟨%W', HW'⟩⟩
        isplitl [HS0 HS1 Hg Hq0 Hh0 Hh1]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            iexact HS1
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        iexact H3
      · exfalso; have hN : t.val < 150 := lt_of_lt_of_eq t.isLt (show cfg0.N = 150 from N_0); omega
  · by_cases h1 : t.val % 150 = 149
    · by_cases hz : t.val = 0
      · exfalso; have hN : t.val < 150 := lt_of_lt_of_eq t.isLt (show cfg0.N = 150 from N_0); omega
      · rw [PhiS_castSucc m c t, PhiS_pos m c _ _ hz]
        rw [outsAt0_C m c t h0 h1]
        unfold sout0_C_0
        iintro ⟨⟨⟨HS0, HS1⟩, Hg, Hq0, Hh0, Hh1⟩, ⟨%W, -, HW⟩, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _ (V m c main_arg4)).2 W _)
        isplitl [H0]; · iexact H0
        isplitl [H1]; · iexact H1
        isplitl [H2]; · iexact H2
        isplitl [H3]; · iexact H3
        isplitl [HS0]; · iexact HS0
        isplitl [HS1]; · iexact HS1
        isplitl [Hq0]; · iexact Hq0
        isplitl [Hh0]; · iexact Hh0
        isplitl [Hh1]; · iexact Hh1
        isplitl [HW]; · iexact HW
        iintro ⟨H0, H1, H2, H3, ⟨%es0, HS0⟩, HS1, Hq0, Hh0, Hh1, ⟨%W', HW'⟩⟩
        isplitl [HS0 HS1 Hg Hq0 Hh0 Hh1]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _)
            iexact HS1
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        iexact H3
    · by_cases hz : t.val = 0
      · exfalso; have hN : t.val < 150 := lt_of_lt_of_eq t.isLt (show cfg0.N = 150 from N_0); omega
      · rw [PhiS_castSucc m c t, PhiS_pos m c _ _ hz]
        rw [outsAt0_B m c t h0 h1]
        unfold sout0_B_0
        iintro ⟨⟨⟨HS0, HS1⟩, Hg, Hq0, Hh0, Hh1⟩, ⟨%W, -, HW⟩, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _ (V m c main_arg4)).2 W _)
        isplitl [H0]; · iexact H0
        isplitl [H1]; · iexact H1
        isplitl [H2]; · iexact H2
        isplitl [H3]; · iexact H3
        isplitl [HS0]; · iexact HS0
        isplitl [HS1]; · iexact HS1
        isplitl [Hq0]; · iexact Hq0
        isplitl [Hh0]; · iexact Hh0
        isplitl [Hh1]; · iexact Hh1
        isplitl [HW]; · iexact HW
        iintro ⟨H0, H1, H2, H3, ⟨%es0, HS0⟩, HS1, Hq0, Hh0, Hh1, ⟨%W', HW'⟩⟩
        isplitl [HS0 HS1 Hg Hq0 Hh0 Hh1]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _)
            iexact HS1
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦDR`) is the invariant before the first point. -/
theorem hin (c : Dev nD) : Pipeline.ΦDR osem0 spec0 H0 R0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦDR` back: the carried scratch's named contents are forgotten. -/
theorem Phi_out (c : Dev nD) (t : Fin (cfg0.N + 1)) (ht : t.val ≠ 0) : (dats m 0 c).Φ t ⊢ Pipeline.ΦDR osem0 spec0 H0 R0 (V m) c := by
  rw [show (dats m 0 c).Φ t = PhiS m c t.val (Nat.le_of_lt_succ t.isLt) from rfl, PhiS_pos m c _ _ ht, PhiDR0_eq]
  iintro ⟨⟨HS0, HS1⟩, Hg, Hq0, Hh0, Hh1⟩
  isplitl [HS0 HS1]
  · isplitl [HS0]
    · iexists _; iexact HS0
    iexact HS1
  isplitl [Hg]; · iexact Hg
  isplitl [Hq0]
  · iexact Hq0
  isplitl [Hh0]
  · iexact Hh0
  iexact Hh1

/-- The same after the last point. -/
theorem hout (c : Dev nD) : (dats m 0 c).Φ (Fin.last cfg0.N) ⊢ Pipeline.ΦDR osem0 spec0 H0 R0 (V m) c :=
  Phi_out m c _ (by rw [Fin.val_last]; have : cfg0.N = 150 := N_0; omega)

/-! ## The run and the frame -/

-- `θ_run_frame_dmaR`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostR cfgs (dats m) 0 R0 (V m)) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer but those the body writes by its own transfers (`R0`)
    at its region-entry contents (Lib/Pipeline/Frame.lean `FramePostR`: nothing is said of those). -/
theorem run_main : θ_run defs (onTc (τ := τ) (main (F := F))) (s₀ m ρ) (Pipeline.FramePostR cfgs (dats m) 0 R0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.KernelIdeal.Cover.lean ====
/-
  Hand-written, untrusted. THE FIRST LOOP OVERWRITES ALL OF ITS SCRATCH: the eight trips store rows `[256 k, 256 k + 256)`
  of the transposed activations, which are all 2048 rows, so what the scratch holds after the loop does not depend on what
  it held before. The body's run needs that: the second loop reads the scratch, and its result must be stated without the
  scratch's contents at the start of a grid point, which nothing is known of.
-/
module

public import proofs.«01_k».proof.Proof.Gen.KernelIdeal.Loops
public import Idealize.ShloMosaic.Lib.Pipeline.Value

@[expose] public section

noncomputable section

namespace Cert.KernelIdeal.Hand

open Idealize.ShloMosaic Idealize.ShloMosaic.TcCoe Cert.KernelIdeal Cert.KernelIdeal.Gen

variable {F : FTy → Type} [FloatOps F]

section Trips

variable (𝒱 : Variants) (c : Dev nD) (bd : Option 𝒱.V) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg5 : Memref sig .tc .hbm S2048x2304 .f32) (harg5 : arg5.IsWhole) (arg6 : Memref sig .tc .hbm S2048x2304 .f32) (harg6 : arg6.IsWhole) (arg7 : Memref sig .tc .vmem S2048x2304 .f32) (harg7 : arg7.IsWhole) (arg8 : Memref sig .tc .vmem S2048x1024 .bf16) (harg8 : arg8.IsWhole) (arg9 : DmaSems sig S_) (X_arg1 : BufTy.Contents (Elt F) arg1.view.ty) (X_arg2 : BufTy.Contents (Elt F) arg2.view.ty)

/-- One trip stores one piece: rows `[256 k, 256 k + 256)`, holding the payload of the activations and scales it loads. -/
theorem tripL1_eq (k : Fin k0_t1_loop.trips) :
    tripL_k0_t1 (F := F) 𝒱 c bd i arg1 harg1 arg2 harg2 arg3 harg3 arg4 harg4 arg5 harg5 arg6 harg6 arg7 harg7 arg8 harg8 arg9 X_arg1 X_arg2 k
      = [⟨Rect.unit (s := S2048x1024) (k0_off3 k) S256x1024.size (k0_off3_inb k),
          k0_pay1 (arg1.view.readAt (Elt F) (Rect.unit (s := S1024x2048) (k0_off1 k) S1024x256.size (k0_off1_inb k)).toLoadRect X_arg1)
            (arg2.view.readAt (Elt F) (Rect.unit (s := S8x2048) (k0_off2 k) S8x256.size (k0_off2_inb k)).toLoadRect X_arg2)⟩] := by
  unfold tripL_k0_t1 trip_k0_t1
  rfl

/-- After `n` trips the pieces cover the rows below `256 n`. -/
theorem pb1_cover (n : ℕ) (hn : n ≤ k0_t1_loop.trips) (y : S2048x1024.Idx) (hy : (y 0).val < 256 * n) :
    ∃ p ∈ pb_k0_t1 (F := F) 𝒱 c bd i arg1 harg1 arg2 harg2 arg3 harg3 arg4 harg4 arg5 harg5 arg6 harg6 arg7 harg7 arg8 harg8 arg9 X_arg1 X_arg2 n, y ∈ p.1.set := by
  induction n with
  | zero => omega
  | succ n ih =>
    have e := pb_k0_t1_succ (F := F) 𝒱 c bd i arg1 harg1 arg2 harg2 arg3 harg3 arg4 harg4 arg5 harg5 arg6 harg6 arg7 harg7 arg8 harg8 arg9 X_arg1 X_arg2 ⟨n, hn⟩
    dsimp only at e
    rw [e, tripL1_eq]
    by_cases h : (y 0).val < 256 * n
    · obtain ⟨p, hp, hm⟩ := ih (by omega) h
      exact ⟨p, List.mem_append_right _ hp, hm⟩
    · refine ⟨_, List.mem_append_left _ (List.mem_singleton_self _), ?_⟩
      rw [Rect.mem_set_unit, k0_off3_eq]
      have h1 : (y 1).val < 1024 := (y 1).isLt
      intro a
      match a with
      | ⟨0, _⟩ => exact ⟨show 256 * n ≤ (y 0).val by omega, show (y 0).val < 256 * n + 256 by omega⟩
      | ⟨1, _⟩ => exact ⟨Nat.zero_le _, show (y 1).val < 0 + 1024 by omega⟩

/-- The loop makes eight trips. -/
theorem trips1 : k0_t1_loop.trips = 8 := by decide +kernel

/-- THE SCRATCH AFTER THE LOOP is the same whatever it held before. -/
theorem writes1_eq (f g : BufTy.Contents (Elt F) arg8.view.ty) :
    arg8.view.writes (Elt F) f (pb_k0_t1 (F := F) 𝒱 c bd i arg1 harg1 arg2 harg2 arg3 harg3 arg4 harg4 arg5 harg5 arg6 harg6 arg7 harg7 arg8 harg8 arg9 X_arg1 X_arg2 (Scf.trips k0_t1_loop.lb k0_t1_loop.ub k0_t1_loop.st))
      = arg8.view.writes (Elt F) g (pb_k0_t1 (F := F) 𝒱 c bd i arg1 harg1 arg2 harg2 arg3 harg3 arg4 harg4 arg5 harg5 arg6 harg6 arg7 harg7 arg8 harg8 arg9 X_arg1 X_arg2 (Scf.trips k0_t1_loop.lb k0_t1_loop.ub k0_t1_loop.st)) := by
  refine (harg8.eq_unread (X := arg8.view.read (Elt F) (arg8.view.writes (Elt F) g _)) ?_).trans (harg8.eq_unread rfl).symm
  funext y
  have hy : (y 0).val < 2048 := (y 0).isLt
  exact View.read_writes_apply_eq _ _ _ _ _ _ (pb1_cover (F := F) 𝒱 c bd i arg1 harg1 arg2 harg2 arg3 harg3 arg4 harg4 arg5 harg5 arg6 harg6 arg7 harg7 arg8 harg8 arg9 X_arg1 X_arg2 _ le_rfl y (by have := trips1; omega))

end Trips

end Cert.KernelIdeal.Hand

end
-- ==== Proof.KernelIdeal.RunA.lean ====
/-
  Hand-written, untrusted (the generated run of this case with one step added). THE BODY'S RUN, CASE A: the first grid point, which fetches the accumulator.
  The added step is the rewrite by `writes1_eq`: before the accumulator is handed over, the transposed activations in the
  scratch are restated over arbitrary contents, since the first loop overwrites all of it. Without it the pieces written to
  the accumulator would mention what the scratch held when the point began.
-/
module

public import proofs.«01_k».proof.Proof.Gen.KernelIdeal.Frame.Runs
public import proofs.«01_k».proof.Proof.KernelIdeal.Cover

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the HBM operands it copies from whole at their launch contents `fh·`, those it writes back into whole at the contents the point before left in them `fw·` (held by value), its DMA cells at zero and the core's `owes`, the body runs to the continuation holding the inputs' as they were,
    a carried scratch it stored into with its pieces written (`LS·`), the other scratch at some contents, the HBM operands it copies from and the cells as they were, those it writes into at the contents they came in with, the body's copies out written over them (`gw·`, a witness the run finds) (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : cond0_0 i) (hc1 : ¬cond0_1 i)
    (x0 : Vec F S1024x2048 .fp8e4m3) (x1 : Vec F S8x2048 .f32) (x2 : Vec F S1024x2304 .fp8e5m2) (x3 : Vec F S8x2304 .f32) (fh0 : HbBuf0 (F := F) c hbM0_0) (fw1 : HbBuf0 (F := F) c hbM0_1) :
    Σ' (LS0 : List (View.Piece (Elt F) S2048x2304 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ semVal ((c : Thread nD τ), SemLoc.dma 8) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ d, owns (c : Thread nD τ) arg8 fullShare d) ∗ semVal ((c : Thread nD τ), SemLoc.dma 8) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0__body i arg1 harg1 arg2 harg2 arg3 harg3 arg4 harg4 (Memref.whole main_arg4) (Memref.isWhole_whole _) (Memref.whole main_v4) (Memref.isWhole_whole _) arg7 harg7 arg8 harg8 cc0_scratch2) K } := by
  refine ⟨?_, ?_, fun W K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hq0, Hh0, Hh1, HW, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    rw [writes1_eq (f := fs1) (g := arg8.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]
    · iexists _, _; isplitr; swap; · iexact HS1
      ipureintro; rfl
    isplitl [Hq0]; · iexact Hq0
    isplitl [Hh0]; · iexact Hh0
    isplitl [Hh1]; · iexact Hh1
    iexists _; iexact HW

end Cert.KernelIdeal.Hand

end
-- ==== Proof.KernelIdeal.RunB.lean ====
/-
  Hand-written, untrusted (the generated run of this case with one step added). THE BODY'S RUN, CASE B: a middle grid point.
  The added step is the rewrite by `writes1_eq`: before the accumulator is handed over, the transposed activations in the
  scratch are restated over arbitrary contents, since the first loop overwrites all of it. Without it the pieces written to
  the accumulator would mention what the scratch held when the point began.
-/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 148: 148 of 150), WITH the
    proof that on whole staging memrefs — the inputs' at their contents, the other outputs' at
    anything, a carried scratch at the contents the point before left (`xs·`) or at anything, the other scratch at anything, the HBM operands it copies from whole at their launch contents `fh·`, those it writes back into whole at the contents the point before left in them `fw·` (held by value), its DMA cells at zero and the core's `owes`, the body runs to the continuation holding the inputs' as they were,
    a carried scratch it stored into with its pieces written (`LS·`), the other scratch at some contents, the HBM operands it copies from and the cells as they were, those it writes into at the contents they came in with, the body's copies out written over them (`gw·`, a witness the run finds) (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : ¬cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (fw1 : HbBuf0 (F := F) c hbM0_1) :
    Σ' (LS0 : List (View.Piece (Elt F) S2048x2304 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare xs0 ∗ (∃ d, owns (c : Thread nD τ) arg8 fullShare d) ∗ semVal ((c : Thread nD τ), SemLoc.dma 8) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ d, owns (c : Thread nD τ) arg8 fullShare d) ∗ semVal ((c : Thread nD τ), SemLoc.dma 8) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0__body i arg1 harg1 arg2 harg2 arg3 harg3 arg4 harg4 (Memref.whole main_arg4) (Memref.isWhole_whole _) (Memref.whole main_v4) (Memref.isWhole_whole _) arg7 harg7 arg8 harg8 cc0_scratch2) K } := by
  refine ⟨?_, ?_, fun W K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, Hq0, Hh0, Hh1, HW, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0 | sl_exact hc1)
    sl_step
    rw [writes1_eq (f := fs1) (g := arg8.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]
    · iexists _, _; isplitr; swap; · iexact HS1
      ipureintro; rfl
    isplitl [Hq0]; · iexact Hq0
    isplitl [Hh0]; · iexact Hh0
    isplitl [Hh1]; · iexact Hh1
    iexists _; iexact HW

end Cert.KernelIdeal.Hand

end
-- ==== Proof.KernelIdeal.RunC.lean ====
/-
  Hand-written, untrusted (the generated run of this case with one step added). THE BODY'S RUN, CASE C: the last grid point, which writes the accumulator out.
  The added step is the rewrite by `writes1_eq`: before the accumulator is handed over, the transposed activations in the
  scratch are restated over arbitrary contents, since the first loop overwrites all of it. Without it the pieces written to
  the accumulator would mention what the scratch held when the point began.
-/
module

public import proofs.«01_k».proof.Proof.KernelIdeal.RunB

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 149), WITH the
    proof that on whole staging memrefs — the inputs' at their contents, the other outputs' at
    anything, a carried scratch at the contents the point before left (`xs·`) or at anything, the other scratch at anything, the HBM operands it copies from whole at their launch contents `fh·`, those it writes back into whole at the contents the point before left in them `fw·` (held by value), its DMA cells at zero and the core's `owes`, the body runs to the continuation holding the inputs' as they were,
    a carried scratch it stored into with its pieces written (`LS·`), the other scratch at some contents, the HBM operands it copies from and the cells as they were, those it writes into at the contents they came in with, the body's copies out written over them (`gw·`, a witness the run finds) (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (fw1 : HbBuf0 (F := F) c hbM0_1) :
    Σ' (LS0 : List (View.Piece (Elt F) S2048x2304 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare xs0 ∗ (∃ d, owns (c : Thread nD τ) arg8 fullShare d) ∗ semVal ((c : Thread nD τ), SemLoc.dma 8) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ d, owns (c : Thread nD τ) arg8 fullShare d) ∗ semVal ((c : Thread nD τ), SemLoc.dma 8) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0__body i arg1 harg1 arg2 harg2 arg3 harg3 arg4 harg4 (Memref.whole main_arg4) (Memref.isWhole_whole _) (Memref.whole main_v4) (Memref.isWhole_whole _) arg7 harg7 arg8 harg8 cc0_scratch2) K } := by
  refine ⟨?_, ?_, fun W K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, Hq0, Hh0, Hh1, HW, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0 | sl_exact hc1)
    sl_step
    sl_unfold_words
    rw [writes1_eq (f := fs1) (g := arg8.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]
    · iexists _, _; isplitr; swap; · iexact HS1
      ipureintro; rfl
    isplitl [Hq0]; · iexact Hq0
    isplitl [Hh0]; · iexact Hh0
    isplitl [Hh1]; · iexact Hh1
    iexists _; iexact HW

end Cert.KernelIdeal.Hand

end
-- ==== Proof.KernelIdeal.Frame.lean ====
/-
  Hand-written, untrusted (the generated frame certificate, over the runs of `Run{A,B,C}.lean`). THE FRAME: the whole run
  of the program from the body's three runs. What the accumulator holds after each grid point is carried from point to point.
-/
module

public import proofs.«01_k».proof.Proof.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for scratch `arg7`, which the kernel carries between points, cover it: one of them a store of the WHOLE buffer (Lib/Ring.lean `sl_whole_mem`). -/
theorem scover0_A_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : cond0_0 i) (hc1 : ¬cond0_1 i)
    (x0 : Vec F S1024x2048 .fp8e4m3) (x1 : Vec F S8x2048 .f32) (x2 : Vec F S1024x2304 .fp8e5m2) (x3 : Vec F S8x2304 .f32) (fh0 : HbBuf0 (F := F) c hbM0_0) (fw1 : HbBuf0 (F := F) c hbM0_1) (y : S2048x2304.Idx) :
    ∃ pc ∈ (kernelRun0_A c i arg1 harg1 arg2 harg2 arg3 harg3 arg4 harg4 arg7 harg7 arg8 harg8 hc0 hc1 x0 x1 x2 x3 fh0 fw1).1, y ∈ pc.1.set :=
  View.cover_of_wholeMem (kernelRun0_A c i arg1 harg1 arg2 harg2 arg3 harg3 arg4 harg4 arg7 harg7 arg8 harg8 hc0 hc1 x0 x1 x2 x3 fh0 fw1).1 (by sl_whole_mem) y

/-- What case A leaves in scratch `arg7`: its pieces read back over junk. -/
def sout0_A_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : cond0_0 i) (hc1 : ¬cond0_1 i)
    (x0 : Vec F S1024x2048 .fp8e4m3) (x1 : Vec F S8x2048 .f32) (x2 : Vec F S1024x2304 .fp8e5m2) (x3 : Vec F S8x2304 .f32) (fh0 : HbBuf0 (F := F) c hbM0_0) (fw1 : HbBuf0 (F := F) c hbM0_1) : Vec F S2048x2304 .f32 :=
  VS0_0.read (Elt F) (VS0_0.writes (Elt F) VS0_0.junk (kernelRun0_A c i arg1 harg1 arg2 harg2 arg3 harg3 arg4 harg4 arg7 harg7 arg8 harg8 hc0 hc1 x0 x1 x2 x3 fh0 fw1).1)

/-- Case A copies nothing into `main_v4`: it holds the contents it started from (`fw1`), as the run
    hands them back. -/
def hbw0_A_1 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : cond0_0 i) (hc1 : ¬cond0_1 i)
    (x0 : Vec F S1024x2048 .fp8e4m3) (x1 : Vec F S8x2048 .f32) (x2 : Vec F S1024x2304 .fp8e5m2) (x3 : Vec F S8x2304 .f32) (fh0 : HbBuf0 (F := F) c hbM0_0) (fw1 : HbBuf0 (F := F) c hbM0_1) : HbBuf0 (F := F) c hbM0_1 := (kernelRun0_A c i arg1 harg1 arg2 harg2 arg3 harg3 arg4 harg4 arg7 harg7 arg8 harg8 hc0 hc1 x0 x1 x2 x3 fh0 fw1).2.1

/-- Case B's pieces for scratch `arg7`, which the kernel carries between points, cover it: 9 pieces of `S2048x256` tiling it (Lib/Ring.lean `Piece.tiledL`). -/
theorem scover0_B_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : ¬cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (fw1 : HbBuf0 (F := F) c hbM0_1) (y : S2048x2304.Idx) :
    ∃ pc ∈ (kernelRun0_B c i arg1 harg1 arg2 harg2 arg3 harg3 arg4 harg4 arg7 harg7 arg8 harg8 hc0 hc1 x0 x1 x2 x3 xs0 fh0 fw1).1, y ∈ pc.1.set :=
  View.cover_of_tiledL (kernelRun0_B c i arg1 harg1 arg2 harg2 arg3 harg3 arg4 harg4 arg7 harg7 arg8 harg8 hc0 hc1 x0 x1 x2 x3 xs0 fh0 fw1).1 S2048x256.size (by sl_kernel_rfl) y

/-- What case B leaves in scratch `arg7`: its pieces read back over junk. -/
def sout0_B_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : ¬cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (fw1 : HbBuf0 (F := F) c hbM0_1) : Vec F S2048x2304 .f32 :=
  VS0_0.read (Elt F) (VS0_0.writes (Elt F) VS0_0.junk (kernelRun0_B c i arg1 harg1 arg2 harg2 arg3 harg3 arg4 harg4 arg7 harg7 arg8 harg8 hc0 hc1 x0 x1 x2 x3 xs0 fh0 fw1).1)

/-- Case B copies nothing into `main_v4`: it holds the contents it started from (`fw1`), as the run
    hands them back. -/
def hbw0_B_1 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : ¬cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (fw1 : HbBuf0 (F := F) c hbM0_1) : HbBuf0 (F := F) c hbM0_1 := (kernelRun0_B c i arg1 harg1 arg2 harg2 arg3 harg3 arg4 harg4 arg7 harg7 arg8 harg8 hc0 hc1 x0 x1 x2 x3 xs0 fh0 fw1).2.1

/-- Case C's pieces for scratch `arg7`, which the kernel carries between points, cover it: 9 pieces of `S2048x256` tiling it (Lib/Ring.lean `Piece.tiledL`). -/
theorem scover0_C_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (fw1 : HbBuf0 (F := F) c hbM0_1) (y : S2048x2304.Idx) :
    ∃ pc ∈ (kernelRun0_C c i arg1 harg1 arg2 harg2 arg3 harg3 arg4 harg4 arg7 harg7 arg8 harg8 hc0 hc1 x0 x1 x2 x3 xs0 fh0 fw1).1, y ∈ pc.1.set :=
  View.cover_of_tiledL (kernelRun0_C c i arg1 harg1 arg2 harg2 arg3 harg3 arg4 harg4 arg7 harg7 arg8 harg8 hc0 hc1 x0 x1 x2 x3 xs0 fh0 fw1).1 S2048x256.size (by sl_kernel_rfl) y

/-- What case C leaves in scratch `arg7`: its pieces read back over junk. -/
def sout0_C_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (fw1 : HbBuf0 (F := F) c hbM0_1) : Vec F S2048x2304 .f32 :=
  VS0_0.read (Elt F) (VS0_0.writes (Elt F) VS0_0.junk (kernelRun0_C c i arg1 harg1 arg2 harg2 arg3 harg3 arg4 harg4 arg7 harg7 arg8 harg8 hc0 hc1 x0 x1 x2 x3 xs0 fh0 fw1).1)

/-- What case C leaves in `main_v4`, the result left in HBM its copies out of scratch write: the contents
    it started from (`fw1`: what the point before left there, at the first point the launch's) with those copies written over
    them — the contents term the run finds, its witness. -/
def hbw0_C_1 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 i) (hc1 : cond0_1 i)
    (x0 : Vec F S1024x2048 .fp8e4m3) (x1 : Vec F S8x2048 .f32) (x2 : Vec F S1024x2304 .fp8e5m2) (x3 : Vec F S8x2304 .f32) (xs0 : Vec F S2048x2304 .f32) (fh0 : HbBuf0 (F := F) c hbM0_0) (fw1 : HbBuf0 (F := F) c hbM0_1) : HbBuf0 (F := F) c hbM0_1 := (kernelRun0_C c i arg1 harg1 arg2 harg2 arg3 harg3 arg4 harg4 arg7 harg7 arg8 harg8 hc0 hc1 x0 x1 x2 x3 xs0 fh0 fw1).2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x2304 .f32 × HbBuf0 (F := F) c hbM0_1
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_v4), hbw0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_v4))
  | n + 1, hn =>
    if h0 : (n + 1) % 150 = 0 then
      if h1 : (n + 1) % 150 = 149 then
        False.elim (by have hN : n + 1 < 150 := lt_of_lt_of_eq hn (show cfg0.N = 150 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_v4), hbw0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_v4))
    else
      if h1 : (n + 1) % 150 = 149 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (V m c main_arg4) (outsAt0 c n (Nat.lt_of_succ_lt hn)).2, hbw0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (V m c main_arg4) (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (V m c main_arg4) (outsAt0 c n (Nat.lt_of_succ_lt hn)).2, hbw0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (V m c main_arg4) (outsAt0 c n (Nat.lt_of_succ_lt hn)).2)

/-- `outsAt0` at a point of case A: that case's contents. -/
theorem outsAt0_A (c : Dev nD) (t : Fin cfg0.N) (h0 : t.val % 150 = 0) (h1 : ¬t.val % 150 = 149) :
    outsAt0 m c t.val t.isLt = (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_arg4) (V m c main_v4), hbw0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_arg4) (V m c main_v4)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 150 = 0) (h1 : ¬t.val % 150 = 149) :
    outsAt0 m c t.val t.isLt = (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (V m c main_arg4) (outsAt0 m c (t.val - 1) (Nat.lt_of_le_of_lt (Nat.sub_le _ _) t.isLt)).2, hbw0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (V m c main_arg4) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 150 = 0) (h1 : t.val % 150 = 149) :
    outsAt0 m c t.val t.isLt = (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (V m c main_arg4) (outsAt0 m c (t.val - 1) (Nat.lt_of_le_of_lt (Nat.sub_le _ _) t.isLt)).2, hbw0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (V m c main_arg4) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).1) ∗ (∃ d, owns (c : Thread nD τ) scM0_1 fullShare d)) ∗ (∃ r, prngReg c r) ∗ iprop(semVal ((c : Thread nD τ), SemLoc.dma 8) 0) ∗ iprop(hbPt0 c hbM0_0 (V m c main_arg4)) ∗ iprop(hbPt0 c hbM0_1 ((outsAt0 m c n hn).2)))

/-- Before the first grid point the invariant is the launch's. -/
theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d)) ∗ (∃ r, prngReg c r) ∗ iprop(semVal ((c : Thread nD τ), SemLoc.dma 8) 0) ∗ iprop(hbPt0 c hbM0_0 (V m c main_arg4)) ∗ iprop(hbPt0 c hbM0_1 ((outsAt0 m c n hn).2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d)) ∗ (∃ r, prngReg c r) ∗ iprop(semVal ((c : Thread nD τ), SemLoc.dma 8) 0) ∗ iprop(hbPt0 c hbM0_0 (V m c main_arg4)) ∗ iprop(hbPt0 c hbM0_1 ((outsAt0 m c (n - 1) (by omega)).2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- A grid point leaves its block of the activation scales as it was. -/
theorem after0_1 (c : Dev nD) (t : Fin cfg0.N) : (dats m 0 c).after 1 t = iblk m c 1 t := by dsimp only [dats]
/-- A grid point leaves its block of the gradient codes as it was. -/
theorem after0_2 (c : Dev nD) (t : Fin cfg0.N) : (dats m 0 c).after 2 t = iblk m c 2 t := by dsimp only [dats]
/-- A grid point leaves its block of the gradient scales as it was. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A grid point finds its block of the activation scales in the staging memref. -/
theorem before0_1 (c : Dev nD) (t : Fin cfg0.N) (d) : (dats m 0 c).before 1 t d = iblk m c 1 t :=
  before0_1_of m (dats m 0 c) (A_eq m c 1) (after0_1 m c) t d
/-- A grid point finds its block of the gradient codes in the staging memref. -/
theorem before0_2 (c : Dev nD) (t : Fin cfg0.N) (d) : (dats m 0 c).before 2 t d = iblk m c 2 t :=
  before0_2_of m (dats m 0 c) (A_eq m c 2) (after0_2 m c) t d
/-- A grid point finds its block of the gradient scales in the staging memref. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4800000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3]
  unfold Dat.owesAt Pipeline.owesWithin
  rw [show (dats m 0 c).owed t.castSucc = 0 from rfl, show (dats m 0 c).owed t.succ = 0 from rfl]
  have hN : t.val < 150 := lt_of_lt_of_eq t.isLt (show cfg0.N = 150 from N_0)
  by_cases h0 : t.val % 150 = 0
  · by_cases h1 : t.val % 150 = 149
    · exfalso; omega
    · by_cases hz : t.val = 0
      · rw [PhiS_castSucc m c t, PhiS_zero m c _ _ hz, PhiDRG0_in_eq]
        rw [outsAt0_A m c t h0 h1]
        unfold sout0_A_0 hbw0_A_1; (try dsimp only)
        iintro ⟨⟨⟨HS0, HS1⟩, Hg, Hq0, Hh0, Hh1⟩, ⟨%W, -, HW⟩, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t) (V m c main_arg4) _).2.2 W _)
        isplitl [H0]; · iexact H0
        isplitl [H1]; · iexact H1
        isplitl [H2]; · iexact H2
        isplitl [H3]; · iexact H3
        isplitl [HS0]; · iexact HS0
        isplitl [HS1]; · iexact HS1
        isplitl [Hq0]; · iexact Hq0
        isplitl [Hh0]; · iexact Hh0
        isplitl [Hh1]; · iexact Hh1
        isplitl [HW]; · iexact HW
        iintro ⟨H0, H1, H2, H3, ⟨%es0, HS0⟩, HS1, Hq0, Hh0, Hh1, ⟨%W', HW'⟩⟩
        isplitl [HS0 HS1 Hg Hq0 Hh0 Hh1]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            iexact HS1
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        iexact H3
      · exfalso; have hN : t.val < 150 := lt_of_lt_of_eq t.isLt (show cfg0.N = 150 from N_0); omega
  · by_cases h1 : t.val % 150 = 149
    · by_cases hz : t.val = 0
      · exfalso; have hN : t.val < 150 := lt_of_lt_of_eq t.isLt (show cfg0.N = 150 from N_0); omega
      · rw [PhiS_castSucc m c t, PhiS_pos m c _ _ hz]
        rw [outsAt0_C m c t h0 h1]
        unfold sout0_C_0 hbw0_C_1; (try dsimp only)
        iintro ⟨⟨⟨HS0, HS1⟩, Hg, Hq0, Hh0, Hh1⟩, ⟨%W, -, HW⟩, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _ (V m c main_arg4) _).2.2 W _)
        isplitl [H0]; · iexact H0
        isplitl [H1]; · iexact H1
        isplitl [H2]; · iexact H2
        isplitl [H3]; · iexact H3
        isplitl [HS0]; · iexact HS0
        isplitl [HS1]; · iexact HS1
        isplitl [Hq0]; · iexact Hq0
        isplitl [Hh0]; · iexact Hh0
        isplitl [Hh1]; · iexact Hh1
        isplitl [HW]; · iexact HW
        iintro ⟨H0, H1, H2, H3, ⟨%es0, HS0⟩, HS1, Hq0, Hh0, Hh1, ⟨%W', HW'⟩⟩
        isplitl [HS0 HS1 Hg Hq0 Hh0 Hh1]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            iexact HS1
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        iexact H3
    · by_cases hz : t.val = 0
      · exfalso; have hN : t.val < 150 := lt_of_lt_of_eq t.isLt (show cfg0.N = 150 from N_0); omega
      · rw [PhiS_castSucc m c t, PhiS_pos m c _ _ hz]
        rw [outsAt0_B m c t h0 h1]
        unfold sout0_B_0 hbw0_B_1; (try dsimp only)
        iintro ⟨⟨⟨HS0, HS1⟩, Hg, Hq0, Hh0, Hh1⟩, ⟨%W, -, HW⟩, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _ (V m c main_arg4) _).2.2 W _)
        isplitl [H0]; · iexact H0
        isplitl [H1]; · iexact H1
        isplitl [H2]; · iexact H2
        isplitl [H3]; · iexact H3
        isplitl [HS0]; · iexact HS0
        isplitl [HS1]; · iexact HS1
        isplitl [Hq0]; · iexact Hq0
        isplitl [Hh0]; · iexact Hh0
        isplitl [Hh1]; · iexact Hh1
        isplitl [HW]; · iexact HW
        iintro ⟨H0, H1, H2, H3, ⟨%es0, HS0⟩, HS1, Hq0, Hh0, Hh1, ⟨%W', HW'⟩⟩
        isplitl [HS0 HS1 Hg Hq0 Hh0 Hh1]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            iexact HS1
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v4 (outsAt0 m c ((Fin.last cfg0.N).val - 1) (by rw [Fin.val_last]; have : cfg0.N = 150 := N_0; omega)).2
/-- `hbG0` at `main_v4`: `outsAt0`'s component. -/
theorem hbG0_1 (c : Dev nD) : hbG0 m c main_v4 = (outsAt0 m c ((Fin.last cfg0.N).val - 1) (by rw [Fin.val_last]; have : cfg0.N = 150 := N_0; omega)).2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_1 ((outsAt0 m c ((Fin.last cfg0.N).val - 1) (by rw [Fin.val_last]; have : cfg0.N = 150 := N_0; omega)).2)) := by
  unfold Pipeline.routed; rw [BI.bigSep_eq_bigSepL_of_eq [main_v4] (by decide) (by decide)]
  simp only [BI.bigSepL_singleton, hbG0_1]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 8) 0) ∗ iprop(hbPt0 c hbM0_0 (V m c main_arg4)) ∗ iprop(hbPt0 c hbM0_1 ((outsAt0 m c ((Fin.last cfg0.N).val - 1) (by rw [Fin.val_last]; have : cfg0.N = 150 := N_0; omega)).2))) := by
  rw [Pipeline.ΦDRG_eq, scopedRest0_eq, ownSems00_eq, hbmPts0_eq, heldG0_eq]; simp only [scM0_0, scM0_1, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 150 := N_0; omega), PhiDRG0_out_eq]
  iintro ⟨⟨HS0, HS1⟩, Hg, Hq0, Hh0, Hh1⟩
  isplitl [HS0 HS1]
  · isplitl [HS0]
    · iexists _; iexact HS0
    iexact HS1
  isplitl [Hg]; · iexact Hg
  isplitl [Hq0]
  · iexact Hq0
  isplitl [Hh0]
  · iexact Hh0
  iexact Hh1

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.toR) (run_main m ρ))

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Spec.lean ====
/-
  Hand-written, untrusted. THE COMMON FORM of the two programs: the gradient of a weight as one sum over the 153600 tokens,
  the ten sequences' tokens counted through. Token `T` is token `T % 15360` of sequence `T / 15360`, and 128 tokens of a
  sequence share a scale per column.
-/
module

public import Idealize.ShloMosaic.Lib.Pipeline.Value
public import Idealize.ShloMosaic.Lib.Pointwise

@[expose] public section

noncomputable section

namespace Cert.Wgrad

open Idealize.ShloMosaic
open scoped BigOperators

/-- The sequence of token `T`. -/
abbrev seq (T : Fin 153600) : Fin 10 := ⟨T.val / 15360, by omega⟩
/-- The place of token `T` in its sequence. -/
abbrev pos (T : Fin 153600) : Fin 15360 := ⟨T.val % 15360, by omega⟩
/-- The scale block of token `T` in its sequence. -/
abbrev blk (T : Fin 153600) : Fin 120 := ⟨T.val % 15360 / 128, by omega⟩

/-- The dequantized activation of token `T`, column `i`. -/
abbrev act (a0 : Vec Ideal ⟨3, ![10, 15360, 2048]⟩ .fp8e4m3) (a1 : Vec Ideal ⟨3, ![10, 120, 2048]⟩ .f32) (T : Fin 153600)
    (i : Fin 2048) : EReal :=
  a0 (ix3 (seq T) (pos T) i) * a1 (ix3 (seq T) (blk T) i)

/-- The dequantized output gradient of token `T`, column `j`. -/
abbrev grad (a2 : Vec Ideal ⟨3, ![10, 15360, 2304]⟩ .fp8e5m2) (a3 : Vec Ideal ⟨3, ![10, 120, 2304]⟩ .f32) (T : Fin 153600)
    (j : Fin 2304) : EReal :=
  a2 (ix3 (seq T) (pos T) j) * a3 (ix3 (seq T) (blk T) j)

/-- THE RESULT at `(i, j)`: the main gradient plus the sum over all tokens of activation times output gradient. -/
def result (a0 : Vec Ideal ⟨3, ![10, 15360, 2048]⟩ .fp8e4m3) (a1 : Vec Ideal ⟨3, ![10, 120, 2048]⟩ .f32)
    (a2 : Vec Ideal ⟨3, ![10, 15360, 2304]⟩ .fp8e5m2) (a3 : Vec Ideal ⟨3, ![10, 120, 2304]⟩ .f32)
    (a4 : Vec Ideal ⟨2, ![2048, 2304]⟩ .f32) (i : Fin 2048) (j : Fin 2304) : EReal :=
  a4 (ix2 i j) + ∑ T : Fin 153600, act a0 a1 T i * grad a2 a3 T j

/-- Token `r` of block `p`. -/
abbrev tok (p : Fin 150) (r : Fin 1024) : Fin 153600 := ⟨1024 * p.val + r.val, by omega⟩

/-- The sum over all tokens is the sum over the 150 blocks of the sums over their 1024 tokens. -/
theorem sum_blocks (f : Fin 153600 → EReal) : ∑ p : Fin 150, ∑ r : Fin 1024, f (tok p r) = ∑ T : Fin 153600, f T := by
  rw [← Fintype.sum_prod_type' (fun (p : Fin 150) (r : Fin 1024) => f (tok p r))]
  exact Fintype.sum_equiv (finProdFinEquiv (m := 150) (n := 1024)) _ (fun T : Fin (150 * 1024) => f T)
    fun x => congrArg f (Fin.ext (show 1024 * x.1.val + x.2.val = x.2.val + 1024 * x.1.val by omega))

/-- The tokens of ten sequences counted through: entry `(T, i)` of the flattened array. -/
theorem flat_apply {e : EltTy} {C : ℕ} (x : Vec Ideal ⟨3, ![10, 15360, C]⟩ e)
    (h : (⟨3, ![10, 15360, C]⟩ : Shape).ShapeCasts ⟨2, ![153600, C]⟩) (T : Fin 153600) (i : Fin C) :
    shapeCast ⟨2, ![153600, C]⟩ x h (ix2 T i) = x (ix3 (seq T) (pos T) i) :=
  shapeCast_apply x h _ _ (by
    rw [Shape.rowMajor_val_three, Shape.rowMajor_val_two]
    show (T.val / 15360 * 15360 + T.val % 15360) * C + i.val = T.val * C + i.val
    rw [show T.val / 15360 * 15360 + T.val % 15360 = T.val by omega])

/-- The scales' blocks counted through: the row of a token's scale in the flattened array of scales. -/
theorem flat_scale_apply {C : ℕ} (x : Vec Ideal ⟨3, ![10, 120, C]⟩ .f32)
    (h : (⟨3, ![10, 120, C]⟩ : Shape).ShapeCasts ⟨2, ![1200, C]⟩) (R : Fin 1200) (T : Fin 153600) (hR : R.val = T.val / 128)
    (i : Fin C) : shapeCast ⟨2, ![1200, C]⟩ x h (ix2 R i) = x (ix3 (seq T) (blk T) i) :=
  shapeCast_apply x h _ _ (by
    rw [Shape.rowMajor_val_three, Shape.rowMajor_val_two]
    show (T.val / 15360 * 120 + T.val % 15360 / 128) * C + i.val = R.val * C + i.val
    rw [show T.val / 15360 * 120 + T.val % 15360 / 128 = R.val by omega])

end Cert.Wgrad

end
-- ==== Proof.Block.lean ====
/-
  Hand-written, untrusted. WHAT ONE BLOCK COMPUTES: the two payloads of the kernel's body at one index, over the reals
  extended with the infinities. The first loop stores the transpose of the dequantized activations; the second adds to
  256 columns of the accumulator the product of that transpose with the dequantized gradients.
-/
module

public import proofs.«01_k».proof.Proof.Gen.KernelIdeal.Skeleton
public import Idealize.ShloMosaic.Lib.Pipeline.Value
public import Idealize.ShloMosaic.Lib.Pointwise

@[expose] public section

noncomputable section

namespace Cert.KernelIdeal.Wgrad

open Idealize.ShloMosaic Cert.KernelIdeal Cert.KernelIdeal.Gen
open scoped BigOperators

/-- The scale row of a token: 128 tokens share one. -/
abbrev scaleRow (r : Fin 1024) : Fin 8 := ⟨r.val / 128, by omega⟩

/-- DEQUANTIZATION of 1024 tokens by 256 columns: the entry times the scale of its token's block and its column. -/
theorem dequant_apply (q : FVec Ideal S1024x256 .bf16) (s : FVec Ideal S8x256 .bf16)
    (h1 : S1024x256.ShapeCasts S8x128x256) (h2 : S8x256.ShapeCasts S8x1x256) (h3 : S8x1x256.Broadcasts S8x128x256)
    (h4 : S8x128x256.ShapeCasts S1024x256) (r : Fin 1024) (j : Fin 256) :
    shapeCast S1024x256 (mulf (shapeCast S8x128x256 q h1) (broadcastTo S8x128x256 (shapeCast S8x1x256 s h2) h3)) h4
        (ix2 r j)
      = (q (ix2 r j) * s (ix2 (scaleRow r) j) : EReal) := by
  rw [shapeCast_apply _ h4 (ix2 r j) (ix3 (scaleRow r) (⟨r.val % 128, by omega⟩ : Fin 128) j) (by
    rw [Shape.rowMajor_val_three, Shape.rowMajor_val_two]
    show (r.val / 128 * 128 + r.val % 128) * 256 + j.val = r.val * 256 + j.val
    omega)]
  refine congrArg₂ (fun a b : EReal => a * b) ?_ ?_
  · exact shapeCast_apply _ h1 _ (ix2 r j) (by
      rw [Shape.rowMajor_val_three, Shape.rowMajor_val_two]
      show r.val * 256 + j.val = (r.val / 128 * 128 + r.val % 128) * 256 + j.val
      omega)
  · refine (broadcastTo_apply _ h3 _ (ix3 (scaleRow r) (0 : Fin 1) j) (fun a => by fin_cases a <;> rfl)).trans ?_
    exact shapeCast_apply _ h2 _ (ix2 (scaleRow r) j) (by
      rw [Shape.rowMajor_val_three, Shape.rowMajor_val_two]
      show r.val / 128 * 256 + j.val = (r.val / 128 * 1 + 0) * 256 + j.val
      omega)

/-- THE FIRST LOOP'S PAYLOAD: row `j`, token `r` is the dequantized activation of token `r`, column `j`. -/
theorem pay1_apply (q : Vec Ideal S1024x256 .fp8e4m3) (s : Vec Ideal S8x256 .f32) (j : Fin 256) (r : Fin 1024) :
    k0_pay1 (F := Ideal) q s (ix2 j r) = (q (ix2 r j) * s (ix2 (scaleRow r) j) : EReal) := by
  unfold k0_pay1
  dsimp only
  rw [shapeCast_self, shapeCast_self, shapeCast_self]
  refine (transpose_apply [1, 0] _ _ (ix2 j r) (ix2 r j) (fun b => by fin_cases b <;> rfl)).trans ?_
  exact dequant_apply _ _ _ _ _ _ r j

/-- THE SECOND LOOP'S PAYLOAD: row `i`, column `j` is the accumulator's entry plus the sum over the 1024 tokens of the
transposed activation times the dequantized gradient. -/
theorem pay2_apply (q : Vec Ideal S1024x256 .fp8e5m2) (s : Vec Ideal S8x256 .f32) (a : Vec Ideal S2048x256 .f32)
    (x : Vec Ideal S2048x1024 .bf16) (i : Fin 2048) (j : Fin 256) :
    k0_pay2 (F := Ideal) q s a x (ix2 i j)
      = (a (ix2 i j) + ∑ r : Fin 1024, x (ix2 i r) * (q (ix2 r j) * s (ix2 (scaleRow r) j)) : EReal) := by
  unfold k0_pay2
  rw [shapeCast_self, shapeCast_self, shapeCast_self]
  show (a (ix2 i j) : EReal) + Ideal.matmul dot_S2048x1024_S1024x256_S2048x256_1_0_0_1_n_n x _ _ (ix2 i j) = _
  refine congrArg (fun z : EReal => a (ix2 i j) + z) ?_
  rw [Ideal.matmul_apply₁_of dot_S2048x1024_S1024x256_S2048x256_1_0_0_1_n_n (a := 1) rfl (K := 1024) rfl _ _ _ _
    (fun r => ix2 i r) (fun r => ix2 r j) (fun r => by funext d; fin_cases d <;> rfl)
    (fun r => by funext d; fin_cases d <;> rfl)]
  have hz : (constant (F := Ideal) S2048x256 .f32 0x00000000#32 (ix2 i j) : EReal) = 0 := by
    simp [pointwise]
  rw [hz, zero_add]
  exact Finset.sum_congr rfl fun r _ => congrArg (fun z : EReal => x (ix2 i r) * z) (dequant_apply _ _ _ _ _ _ r j)

end Cert.KernelIdeal.Wgrad

end
-- ==== Proof.LoopValues.lean ====
/-
  Hand-written, untrusted. WHAT THE ARRAYS HOLD AFTER THE BODY'S TWO LOOPS, over the reals extended with the infinities.
  After the first loop the scratch is the transpose of the dequantized activations; after `n` trips of the second the
  accumulator's first `256 n` columns have grown by the block's product, and the others are as they were.
-/
module

public import proofs.«01_k».proof.Proof.Block
public import proofs.«01_k».proof.Proof.KernelIdeal.Cover
public import Idealize.ShloMosaic.Lib.WritesUnit
public import Idealize.ShloMosaic.Lib.VecWindow

@[expose] public section

noncomputable section

namespace Cert.KernelIdeal.Wgrad

open Idealize.ShloMosaic Idealize.ShloMosaic.TcCoe Cert.KernelIdeal Cert.KernelIdeal.Gen Cert.KernelIdeal.Hand
open scoped BigOperators

/-- A load at a unit-stride rectangle reads the view at the offset plus the index. -/
theorem readAt_unit_at {sig : RefSig} {κ : Kind} {Val : EltTy → Type} {sp : Space} {s : Shape} {e : EltTy} (v : View sig κ sp s e)
    (f : v.ty.Contents Val) {off off' size : Fin s.rank → ℕ} (inb : ∀ a, off a + size a ≤ s.size a) (heq : off = off')
    (x : (Rect.unit off size inb).shape.Idx) (y : s.Idx) (hy : ∀ a, (y a).val = off' a + (x a).val) :
    v.readAt Val (Rect.unit off size inb).toLoadRect f x = v.read Val f y := by
  subst heq
  rw [View.readAt_apply]
  refine congrArg (v.read Val f) (funext fun a => Fin.ext ?_)
  show off a + 1 * (x a).val = (y a).val
  rw [hy a, Nat.one_mul]

/-- The dequantized activation of a block: token `r`, column `i`. -/
abbrev act (x0 : Vec Ideal S1024x2048 .fp8e4m3) (x1 : Vec Ideal S8x2048 .f32) (r : Fin 1024) (i : Fin 2048) : EReal :=
  x0 (ix2 r i) * x1 (ix2 (scaleRow r) i)

/-- The dequantized gradient of a block: token `r`, column `j`. -/
abbrev grad (x2 : Vec Ideal S1024x2304 .fp8e5m2) (x3 : Vec Ideal S8x2304 .f32) (r : Fin 1024) (j : Fin 2304) : EReal :=
  x2 (ix2 r j) * x3 (ix2 (scaleRow r) j)

/-- WHAT ONE BLOCK ADDS to entry `(i, j)` of the accumulator: the sum over its 1024 tokens. -/
abbrev contrib (x0 : Vec Ideal S1024x2048 .fp8e4m3) (x1 : Vec Ideal S8x2048 .f32) (x2 : Vec Ideal S1024x2304 .fp8e5m2)
    (x3 : Vec Ideal S8x2304 .f32) (i : Fin 2048) (j : Fin 2304) : EReal :=
  ∑ r : Fin 1024, act x0 x1 r i * grad x2 x3 r j

section First

variable (𝒱 : Variants) (c : Dev nD) (bd : Option 𝒱.V) (ic : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg5 : Memref sig .tc .hbm S2048x2304 .f32) (harg5 : arg5.IsWhole) (arg6 : Memref sig .tc .hbm S2048x2304 .f32) (harg6 : arg6.IsWhole) (arg7 : Memref sig .tc .vmem S2048x2304 .f32) (harg7 : arg7.IsWhole) (arg8 : Memref sig .tc .vmem S2048x1024 .bf16) (harg8 : arg8.IsWhole) (arg9 : DmaSems sig S_) (X_arg1 : BufTy.Contents (Elt Ideal) arg1.view.ty) (X_arg2 : BufTy.Contents (Elt Ideal) arg2.view.ty)

/-- AFTER `n` TRIPS OF THE FIRST LOOP row `i < 256 n` of the scratch holds the dequantized activations of column `i`. -/
theorem scratch_apply (f : BufTy.Contents (Elt Ideal) arg8.view.ty) (n : ℕ) (hn : n ≤ k0_t1_loop.trips) (i : Fin 2048)
    (r : Fin 1024) (hi : i.val < 256 * n) :
    arg8.view.read (Elt Ideal) (arg8.view.writes (Elt Ideal) f (pb_k0_t1 (F := Ideal) 𝒱 c bd ic arg1 harg1 arg2 harg2 arg3 harg3 arg4 harg4 arg5 harg5 arg6 harg6 arg7 harg7 arg8 harg8 arg9 X_arg1 X_arg2 n)) (ix2 i r)
      = act (arg1.view.read (Elt Ideal) X_arg1) (arg2.view.read (Elt Ideal) X_arg2) r i := by
  induction n with
  | zero => omega
  | succ n ih =>
    have e := pb_k0_t1_succ (F := Ideal) 𝒱 c bd ic arg1 harg1 arg2 harg2 arg3 harg3 arg4 harg4 arg5 harg5 arg6 harg6 arg7 harg7 arg8 harg8 arg9 X_arg1 X_arg2 ⟨n, hn⟩
    dsimp only at e
    rw [e, tripL1_eq, List.singleton_append]
    by_cases h : i.val < 256 * n
    · rw [View.read_writes_cons_unit_of_not_mem arg8.view f (k0_off3_inb ⟨n, hn⟩) _ _ (ix2 i r) (k0_off3_eq ⟨n, hn⟩) 0 (Or.inl h)]
      exact ih (by omega) h
    · rw [View.read_writes_cons_unit_of_mem arg8.view f (k0_off3_inb ⟨n, hn⟩) _ _ (ix2 i r)
        (ix2 (⟨i.val - 256 * n, by omega⟩ : Fin 256) r) (k0_off3_eq ⟨n, hn⟩) (fun a => by
          match a with
          | ⟨0, _⟩ => exact show i.val = 256 * n + (i.val - 256 * n) by omega
          | ⟨1, _⟩ => exact show r.val = 0 + r.val by omega)]
      refine (pay1_apply _ _ _ r).trans (congrArg₂ (fun a b : EReal => a * b) ?_ ?_)
      · refine readAt_unit_at arg1.view X_arg1 (k0_off1_inb ⟨n, hn⟩) (k0_off1_eq ⟨n, hn⟩) _ (ix2 r i) fun a => ?_
        match a with
        | ⟨0, _⟩ => exact show r.val = 0 + r.val by omega
        | ⟨1, _⟩ => exact show i.val = 256 * n + (i.val - 256 * n) by omega
      · refine readAt_unit_at arg2.view X_arg2 (k0_off2_inb ⟨n, hn⟩) (k0_off2_eq ⟨n, hn⟩) _ (ix2 (scaleRow r) i) fun a => ?_
        match a with
        | ⟨0, _⟩ => exact show r.val / 128 = 0 + r.val / 128 by omega
        | ⟨1, _⟩ => exact show i.val = 256 * n + (i.val - 256 * n) by omega

/-- AFTER THE FIRST LOOP the whole scratch is the transpose of the dequantized activations. -/
theorem scratch_full (f : BufTy.Contents (Elt Ideal) arg8.view.ty) (i : Fin 2048) (r : Fin 1024) :
    arg8.view.read (Elt Ideal) (arg8.view.writes (Elt Ideal) f
        (pb_k0_t1 (F := Ideal) 𝒱 c bd ic arg1 harg1 arg2 harg2 arg3 harg3 arg4 harg4 arg5 harg5 arg6 harg6 arg7 harg7 arg8 harg8 arg9 X_arg1 X_arg2 (Scf.trips k0_t1_loop.lb k0_t1_loop.ub k0_t1_loop.st))) (ix2 i r)
      = act (arg1.view.read (Elt Ideal) X_arg1) (arg2.view.read (Elt Ideal) X_arg2) r i :=
  scratch_apply (f := f) (n := k0_t1_loop.trips) (hn := le_rfl) (i := i) (r := r) (hi := by
    have := trips1; have := i.isLt; omega) ..

end First

section Second

variable (𝒱 : Variants) (c : Dev nD) (bd : Option 𝒱.V) (ic : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg5 : Memref sig .tc .hbm S2048x2304 .f32) (harg5 : arg5.IsWhole) (arg6 : Memref sig .tc .hbm S2048x2304 .f32) (harg6 : arg6.IsWhole) (arg7 : Memref sig .tc .vmem S2048x2304 .f32) (harg7 : arg7.IsWhole) (arg8 : Memref sig .tc .vmem S2048x1024 .bf16) (harg8 : arg8.IsWhole) (arg9 : DmaSems sig S_) (X_arg3 : BufTy.Contents (Elt Ideal) arg3.view.ty) (X_arg4 : BufTy.Contents (Elt Ideal) arg4.view.ty) (X_arg8 : BufTy.Contents (Elt Ideal) arg8.view.ty)

/-- One trip of the second loop stores one piece: columns `[256 k, 256 k + 256)` of the accumulator, holding the payload of
the gradients, scales, accumulator columns and scratch it loads. -/
theorem tripL2_eq (k : Fin k0_t2_loop.trips) (f : BufTy.Contents (Elt Ideal) arg7.view.ty) :
    tripL_k0_t2 (F := Ideal) 𝒱 c bd ic arg1 harg1 arg2 harg2 arg3 harg3 arg4 harg4 arg5 harg5 arg6 harg6 arg7 harg7 arg8 harg8 arg9 X_arg3 X_arg4 X_arg8 k f
      = [⟨Rect.unit (s := S2048x2304) (k0_off6 k) S2048x256.size (k0_off6_inb k),
          k0_pay2 (arg3.view.readAt (Elt Ideal) (Rect.unit (s := S1024x2304) (k0_off4 k) S1024x256.size (k0_off4_inb k)).toLoadRect X_arg3)
            (arg4.view.readAt (Elt Ideal) (Rect.unit (s := S8x2304) (k0_off5 k) S8x256.size (k0_off5_inb k)).toLoadRect X_arg4)
            (arg7.view.readAt (Elt Ideal) (Rect.unit (s := S2048x2304) (k0_off6 k) S2048x256.size (k0_off6_inb k)).toLoadRect f)
            (arg8.view.read (Elt Ideal) X_arg8)⟩] := by
  unfold tripL_k0_t2 trip_k0_t2
  dsimp only
  rw [View.readAt_full arg8.view X_arg8]

/-- The loop makes nine trips. -/
theorem trips2 : k0_t2_loop.trips = 9 := by decide +kernel

/-- AFTER `n` TRIPS OF THE SECOND LOOP column `j < 256 n` of the accumulator has grown by the product of the scratch with the
dequantized gradients; the other columns are as they were. -/
theorem acc_apply (G : BufTy.Contents (Elt Ideal) arg7.view.ty) (n : ℕ) (hn : n ≤ k0_t2_loop.trips) (i : Fin 2048)
    (j : Fin 2304) :
    arg7.view.read (Elt Ideal) (arg7.view.writes (Elt Ideal) G (pb_k0_t2 (F := Ideal) 𝒱 c bd ic arg1 harg1 arg2 harg2 arg3 harg3 arg4 harg4 arg5 harg5 arg6 harg6 arg7 harg7 arg8 harg8 arg9 X_arg3 X_arg4 X_arg8 G n)) (ix2 i j)
      = (if j.val < 256 * n then (arg7.view.read (Elt Ideal) G (ix2 i j) : EReal)
          + ∑ r : Fin 1024, (arg8.view.read (Elt Ideal) X_arg8 (ix2 i r) : EReal)
              * grad (arg3.view.read (Elt Ideal) X_arg3) (arg4.view.read (Elt Ideal) X_arg4) r j
        else arg7.view.read (Elt Ideal) G (ix2 i j)) := by
  induction n generalizing j with
  | zero => rw [if_neg (by omega)]; rfl
  | succ n ih =>
    have e := pb_k0_t2_succ (F := Ideal) 𝒱 c bd ic arg1 harg1 arg2 harg2 arg3 harg3 arg4 harg4 arg5 harg5 arg6 harg6 arg7 harg7 arg8 harg8 arg9 X_arg3 X_arg4 X_arg8 G ⟨n, hn⟩
    dsimp only at e
    rw [e, tripL2_eq, List.singleton_append]
    by_cases h : 256 * n ≤ j.val ∧ j.val < 256 * n + 256
    · obtain ⟨h1, h2⟩ := h
      rw [View.read_writes_cons_unit_of_mem arg7.view G (k0_off6_inb ⟨n, hn⟩) _ _ (ix2 i j)
        (ix2 i (⟨j.val - 256 * n, by omega⟩ : Fin 256)) (k0_off6_eq ⟨n, hn⟩) (fun a => by
          match a with
          | ⟨0, _⟩ => exact show i.val = 0 + i.val by omega
          | ⟨1, _⟩ => exact show j.val = 256 * n + (j.val - 256 * n) by omega), if_pos (by omega)]
      refine (pay2_apply _ _ _ _ i _).trans (congrArg₂ (fun a b : EReal => a + b) ?_ ?_)
      · refine (readAt_unit_at arg7.view _ (k0_off6_inb ⟨n, hn⟩) (k0_off6_eq ⟨n, hn⟩) _ (ix2 i j) fun a => ?_).trans ?_
        · match a with
          | ⟨0, _⟩ => exact show i.val = 0 + i.val by omega
          | ⟨1, _⟩ => exact show j.val = 256 * n + (j.val - 256 * n) by omega
        · rw [ih (by omega) j, if_neg (by omega)]
      · refine Finset.sum_congr rfl fun r _ => congrArg (fun z : EReal => arg8.view.read (Elt Ideal) X_arg8 (ix2 i r) * z)
          (congrArg₂ (fun a b : EReal => a * b) ?_ ?_)
        · refine readAt_unit_at arg3.view X_arg3 (k0_off4_inb ⟨n, hn⟩) (k0_off4_eq ⟨n, hn⟩) _ (ix2 r j) fun a => ?_
          match a with
          | ⟨0, _⟩ => exact show r.val = 0 + r.val by omega
          | ⟨1, _⟩ => exact show j.val = 256 * n + (j.val - 256 * n) by omega
        · refine readAt_unit_at arg4.view X_arg4 (k0_off5_inb ⟨n, hn⟩) (k0_off5_eq ⟨n, hn⟩) _ (ix2 (scaleRow r) j) fun a => ?_
          match a with
          | ⟨0, _⟩ => exact show r.val / 128 = 0 + r.val / 128 by omega
          | ⟨1, _⟩ => exact show j.val = 256 * n + (j.val - 256 * n) by omega
    · rw [View.read_writes_cons_unit_of_not_mem arg7.view G (k0_off6_inb ⟨n, hn⟩) _ _ (ix2 i j) (k0_off6_eq ⟨n, hn⟩) 1
        (show j.val < 256 * n ∨ 256 * n + 256 ≤ j.val by omega), ih (by omega) j]
      by_cases h1 : j.val < 256 * n
      · rw [if_pos h1, if_pos (by omega)]
      · rw [if_neg h1, if_neg (by omega)]

/-- AFTER THE SECOND LOOP every entry of the accumulator has grown by the scratch's product with the dequantized gradients. -/
theorem acc_full (G : BufTy.Contents (Elt Ideal) arg7.view.ty) (i : Fin 2048) (j : Fin 2304) :
    arg7.view.read (Elt Ideal) (arg7.view.writes (Elt Ideal) G
        (pb_k0_t2 (F := Ideal) 𝒱 c bd ic arg1 harg1 arg2 harg2 arg3 harg3 arg4 harg4 arg5 harg5 arg6 harg6 arg7 harg7 arg8 harg8 arg9 X_arg3 X_arg4 X_arg8 G (Scf.trips k0_t2_loop.lb k0_t2_loop.ub k0_t2_loop.st))) (ix2 i j)
      = ((arg7.view.read (Elt Ideal) G (ix2 i j) : EReal)
          + ∑ r : Fin 1024, (arg8.view.read (Elt Ideal) X_arg8 (ix2 i r) : EReal)
              * grad (arg3.view.read (Elt Ideal) X_arg3) (arg4.view.read (Elt Ideal) X_arg4) r j) := by
  refine (acc_apply (G := G) (n := k0_t2_loop.trips) (hn := le_rfl) (i := i) (j := j) ..).trans (if_pos ?_)
  have := trips2; have := j.isLt; omega

end Second

end Cert.KernelIdeal.Wgrad

end
-- ==== Proof.PointValues.lean ====
/-
  Hand-written, untrusted. WHAT THE BODY LEAVES IN THE ACCUMULATOR at the first, a middle and the last grid point, over the
  reals extended with the infinities: what it started from (the main gradient at the first point, the accumulator of the point
  before at the others) plus the product of the point's block. At the last point the result array holds the same.
-/
module

public import proofs.«01_k».proof.Proof.LoopValues
public import proofs.«01_k».proof.Proof.KernelIdeal.Frame

@[expose] public section

set_option maxRecDepth 16384

noncomputable section

namespace Cert.KernelIdeal.Wgrad

open Idealize.ShloMosaic Idealize.ShloMosaic.TcCoe Idealize.ShloMosaic.Tactic Cert.KernelIdeal Cert.KernelIdeal.Gen Cert.KernelIdeal.Hand
open scoped BigOperators

/-- An entry of the accumulator grown by a block's product. -/
abbrev grown (a z : EReal) : EReal := a + z

/-- The block's product, with the scratch in place of the activations it holds. -/
theorem sum_scratch {X : Fin 2048 → Fin 1024 → EReal} {x0 : Vec Ideal S1024x2048 .fp8e4m3} {x1 : Vec Ideal S8x2048 .f32}
    {x2 x2' : Vec Ideal S1024x2304 .fp8e5m2} {x3 x3' : Vec Ideal S8x2304 .f32} (i : Fin 2048) (j : Fin 2304)
    (hX : ∀ r, X i r = act x0 x1 r i) (h2 : x2' = x2) (h3 : x3' = x3) :
    ∑ r : Fin 1024, X i r * grad x2' x3' r j = contrib x0 x1 x2 x3 i j := by
  subst h2 h3
  exact Finset.sum_congr rfl fun r _ => by rw [hX r]

/-- A MIDDLE POINT adds its block to what the point before left. -/
theorem sout_B_apply (c : Dev nD) (ic : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 ic) (hc1 : ¬cond0_1 ic) (x0 : Vec Ideal S1024x2048 .fp8e4m3) (x1 : Vec Ideal S8x2048 .f32) (x2 : Vec Ideal S1024x2304 .fp8e5m2) (x3 : Vec Ideal S8x2304 .f32) (xs0 : Vec Ideal S2048x2304 .f32) (fh0 : HbBuf0 (F := Ideal) c hbM0_0) (fw1 : HbBuf0 (F := Ideal) c hbM0_1) (i : Fin 2048) (j : Fin 2304) :
    sout0_B_0 (F := Ideal) c ic arg1 harg1 arg2 harg2 arg3 harg3 arg4 harg4 arg7 harg7 arg8 harg8 hc0 hc1 x0 x1 x2 x3 xs0 fh0 fw1 (ix2 i j)
      = grown (xs0 (ix2 i j)) (contrib x0 x1 x2 x3 i j) := by
  unfold sout0_B_0
  refine (View.read_writes_apply_eq VS0_0 VS0_0.junk arg7.view (harg7.unread xs0) _ _ (scover0_B_0 c ic arg1 harg1 arg2 harg2 arg3 harg3 arg4 harg4 arg7 harg7 arg8 harg8 hc0 hc1 x0 x1 x2 x3 xs0 fh0 fw1 (ix2 i j))).trans ?_
  unfold kernelRun0_B
  dsimp only
  refine (acc_full (i := i) (j := j) ..).trans (congrArg₂ (fun a b : EReal => a + b) (by rw [harg7.read_unread])
    (sum_scratch (X := fun i r => arg8.view.read (Elt Ideal) _ (ix2 i r)) i j
      (fun r => (scratch_full (i := i) (r := r) ..).trans (by rw [harg1.read_unread, harg2.read_unread]))
      (harg3.read_unread x2) (harg4.read_unread x3)))

/-- THE LAST POINT adds its block too. -/
theorem sout_C_apply (c : Dev nD) (ic : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 ic) (hc1 : cond0_1 ic) (x0 : Vec Ideal S1024x2048 .fp8e4m3) (x1 : Vec Ideal S8x2048 .f32) (x2 : Vec Ideal S1024x2304 .fp8e5m2) (x3 : Vec Ideal S8x2304 .f32) (xs0 : Vec Ideal S2048x2304 .f32) (fh0 : HbBuf0 (F := Ideal) c hbM0_0) (fw1 : HbBuf0 (F := Ideal) c hbM0_1) (i : Fin 2048) (j : Fin 2304) :
    sout0_C_0 (F := Ideal) c ic arg1 harg1 arg2 harg2 arg3 harg3 arg4 harg4 arg7 harg7 arg8 harg8 hc0 hc1 x0 x1 x2 x3 xs0 fh0 fw1 (ix2 i j)
      = grown (xs0 (ix2 i j)) (contrib x0 x1 x2 x3 i j) := by
  unfold sout0_C_0
  refine (View.read_writes_apply_eq VS0_0 VS0_0.junk arg7.view (harg7.unread xs0) _ _ (scover0_C_0 c ic arg1 harg1 arg2 harg2 arg3 harg3 arg4 harg4 arg7 harg7 arg8 harg8 hc0 hc1 x0 x1 x2 x3 xs0 fh0 fw1 (ix2 i j))).trans ?_
  unfold kernelRun0_C
  dsimp only
  refine (acc_full (i := i) (j := j) ..).trans (congrArg₂ (fun a b : EReal => a + b) (by rw [harg7.read_unread])
    (sum_scratch (X := fun i r => arg8.view.read (Elt Ideal) _ (ix2 i r)) i j
      (fun r => (scratch_full (i := i) (r := r) ..).trans (by rw [harg1.read_unread, harg2.read_unread]))
      (harg3.read_unread x2) (harg4.read_unread x3)))

/-- THE RESULT ARRAY after the last point holds the accumulator. -/
theorem hbw_C_apply (c : Dev nD) (ic : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : ¬cond0_0 ic) (hc1 : cond0_1 ic) (x0 : Vec Ideal S1024x2048 .fp8e4m3) (x1 : Vec Ideal S8x2048 .f32) (x2 : Vec Ideal S1024x2304 .fp8e5m2) (x3 : Vec Ideal S8x2304 .f32) (xs0 : Vec Ideal S2048x2304 .f32) (fh0 : HbBuf0 (F := Ideal) c hbM0_0) (fw1 : HbBuf0 (F := Ideal) c hbM0_1) (i : Fin 2048) (j : Fin 2304) :
    hbw0_C_1 (F := Ideal) c ic arg1 harg1 arg2 harg2 arg3 harg3 arg4 harg4 arg7 harg7 arg8 harg8 hc0 hc1 x0 x1 x2 x3 xs0 fh0 fw1 (ix2 i j)
      = grown (xs0 (ix2 i j)) (contrib x0 x1 x2 x3 i j) := by
  unfold hbw0_C_1 kernelRun0_C
  dsimp only
  refine (congrFun (View.write_whole_univ main_v4 fw1 _) (ix2 i j)).trans ?_
  exact (acc_full (i := i) (j := j) ..).trans (congrArg₂ (fun a b : EReal => a + b) (by rw [harg7.read_unread])
    (sum_scratch (X := fun i r => arg8.view.read (Elt Ideal) _ (ix2 i r)) i j
      (fun r => (scratch_full (i := i) (r := r) ..).trans (by rw [harg1.read_unread, harg2.read_unread]))
      (harg3.read_unread x2) (harg4.read_unread x3)))

/-- THE FIRST POINT starts from the main gradient. -/
theorem sout_A_apply (c : Dev nD) (ic : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .fp8e5m2) (harg3 : arg3.IsWhole) (arg4 : Memref sig .tc .vmem S8x2304 .f32) (harg4 : arg4.IsWhole) (arg7 : Memref sig .tc .vmem S2048x2304 .f32) (harg7 : arg7.IsWhole) (arg8 : Memref sig .tc .vmem S2048x1024 .bf16) (harg8 : arg8.IsWhole) (hc0 : cond0_0 ic) (hc1 : ¬cond0_1 ic) (x0 : Vec Ideal S1024x2048 .fp8e4m3) (x1 : Vec Ideal S8x2048 .f32) (x2 : Vec Ideal S1024x2304 .fp8e5m2) (x3 : Vec Ideal S8x2304 .f32) (fh0 : HbBuf0 (F := Ideal) c hbM0_0) (fw1 : HbBuf0 (F := Ideal) c hbM0_1) (i : Fin 2048) (j : Fin 2304) :
    sout0_A_0 (F := Ideal) c ic arg1 harg1 arg2 harg2 arg3 harg3 arg4 harg4 arg7 harg7 arg8 harg8 hc0 hc1 x0 x1 x2 x3 fh0 fw1 (ix2 i j)
      = grown (fh0 (ix2 i j)) (contrib x0 x1 x2 x3 i j) := by
  unfold sout0_A_0
  refine (View.read_writes_apply_eq VS0_0 VS0_0.junk arg7.view arg7.view.junk _ _ (scover0_A_0 c ic arg1 harg1 arg2 harg2 arg3 harg3 arg4 harg4 arg7 harg7 arg8 harg8 hc0 hc1 x0 x1 x2 x3 fh0 fw1 (ix2 i j))).trans ?_
  unfold kernelRun0_A
  dsimp only
  rw [View.writes_append]
  refine (acc_full (i := i) (j := j) ..).trans (congrArg₂ (fun a b : EReal => a + b) ?_
    (sum_scratch (X := fun i r => arg8.view.read (Elt Ideal) _ (ix2 i r)) i j
      (fun r => (scratch_full (i := i) (r := r) ..).trans (by rw [harg1.read_unread, harg2.read_unread]))
      (harg3.read_unread x2) (harg4.read_unread x3)))
  rw [View.read_writes_whole]
  rfl

end Cert.KernelIdeal.Wgrad

end
-- ==== Proof.Accumulate.lean ====
/-
  Hand-written, untrusted. WHAT THE KERNEL'S RESULT HOLDS: over the 150 grid points the accumulator grows by one block's
  product each, from the main gradient, so at the last point the result array holds the common form.
-/
module

public import proofs.«01_k».proof.Proof.Spec
public import proofs.«01_k».proof.Proof.PointValues

@[expose] public section

noncomputable section

namespace Cert.KernelIdeal.Wgrad

open Idealize.ShloMosaic Idealize.ShloMosaic.TcCoe Cert.KernelIdeal Cert.KernelIdeal.Gen Cert.KernelIdeal.Hand
open scoped BigOperators

variable (m : (ℓ : Loc nD τ sig) → Buf (Elt Ideal) ℓ) (c : Dev nD)

/-- The grid has 150 points. -/
theorem N_eq : cfg0.N = 150 := N_0

/-- Grid point `t` takes block `t` of each input. -/
theorem index0 : ∀ t : Fin cfg0.N, win0_0.index t 0 = t.val ∧ win0_0.index t 1 = 0 := by decide +kernel
/-- Grid point `t` reads block row `t` of the activation scales. -/
theorem index1 : ∀ t : Fin cfg0.N, win0_1.index t 0 = t.val ∧ win0_1.index t 1 = 0 := by decide +kernel
/-- Grid point `t` reads block row `t` of the gradient codes. -/
theorem index2 : ∀ t : Fin cfg0.N, win0_2.index t 0 = t.val ∧ win0_2.index t 1 = 0 := by decide +kernel
/-- Grid point `t` reads block row `t` of the gradient scales. -/
theorem index3 : ∀ t : Fin cfg0.N, win0_3.index t 0 = t.val ∧ win0_3.index t 1 = 0 := by decide +kernel

/-- What grid point `t` finds of the activations: token `r` of block `t`. -/
theorem iblk0_apply (t : Fin cfg0.N) (p : Fin 150) (hp : p.val = t.val) (r : Fin 1024) (i : Fin 2048) :
    (iblk m c 0 t : Vec Ideal S1024x2048 .fp8e4m3) (ix2 r i)
      = m ((c : Thread nD τ).loc main_arg0) (ix3 (Cert.Wgrad.seq (Cert.Wgrad.tok p r)) (Cert.Wgrad.pos (Cert.Wgrad.tok p r)) i) := by
  unfold iblk
  rw [View.read_apply]
  show V m c main_v0 _ = _
  refine Eq.trans (congrArg (V m c main_v0) (a₂ := ix2 (Cert.Wgrad.tok p r) i) (funext fun a => Fin.ext ?_)) ?_
  · match a with
    | ⟨0, _⟩ => show win0_0.index t 0 * 1024 + 1 * r.val = 1024 * p.val + r.val; rw [(index0 t).1]; omega
    | ⟨1, _⟩ => show win0_0.index t 1 * 2048 + 1 * i.val = i.val; rw [(index0 t).2]; omega
  · entry_read
    exact Cert.Wgrad.flat_apply _ _ _ _

/-- What grid point `t` finds of the activations' scales: that of token `r` of block `t`. -/
theorem iblk1_apply (t : Fin cfg0.N) (p : Fin 150) (hp : p.val = t.val) (r : Fin 1024) (i : Fin 2048) :
    (iblk m c 1 t : Vec Ideal S8x2048 .f32) (ix2 (scaleRow r) i)
      = m ((c : Thread nD τ).loc main_arg1) (ix3 (Cert.Wgrad.seq (Cert.Wgrad.tok p r)) (Cert.Wgrad.blk (Cert.Wgrad.tok p r)) i) := by
  unfold iblk
  rw [View.read_apply]
  show V m c main_v1 _ = _
  refine Eq.trans (congrArg (V m c main_v1) (a₂ := ix2 (⟨8 * p.val + r.val / 128, by omega⟩ : Fin 1200) i)
    (funext fun a => Fin.ext ?_)) ?_
  · match a with
    | ⟨0, _⟩ => show win0_1.index t 0 * 8 + 1 * (r.val / 128) = 8 * p.val + r.val / 128; rw [(index1 t).1]; omega
    | ⟨1, _⟩ => show win0_1.index t 1 * 2048 + 1 * i.val = i.val; rw [(index1 t).2]; omega
  · entry_read
    exact Cert.Wgrad.flat_scale_apply _ _ _ _ (by show 8 * p.val + r.val / 128 = (1024 * p.val + r.val) / 128; omega) _

/-- What grid point `t` finds of the output gradients: token `r` of block `t`. -/
theorem iblk2_apply (t : Fin cfg0.N) (p : Fin 150) (hp : p.val = t.val) (r : Fin 1024) (j : Fin 2304) :
    (iblk m c 2 t : Vec Ideal S1024x2304 .fp8e5m2) (ix2 r j)
      = m ((c : Thread nD τ).loc main_arg2) (ix3 (Cert.Wgrad.seq (Cert.Wgrad.tok p r)) (Cert.Wgrad.pos (Cert.Wgrad.tok p r)) j) := by
  unfold iblk
  rw [View.read_apply]
  show V m c main_v2 _ = _
  refine Eq.trans (congrArg (V m c main_v2) (a₂ := ix2 (Cert.Wgrad.tok p r) j) (funext fun a => Fin.ext ?_)) ?_
  · match a with
    | ⟨0, _⟩ => show win0_2.index t 0 * 1024 + 1 * r.val = 1024 * p.val + r.val; rw [(index2 t).1]; omega
    | ⟨1, _⟩ => show win0_2.index t 1 * 2304 + 1 * j.val = j.val; rw [(index2 t).2]; omega
  · entry_read
    exact Cert.Wgrad.flat_apply _ _ _ _

/-- What grid point `t` finds of the output gradients' scales: that of token `r` of block `t`. -/
theorem iblk3_apply (t : Fin cfg0.N) (p : Fin 150) (hp : p.val = t.val) (r : Fin 1024) (j : Fin 2304) :
    (iblk m c 3 t : Vec Ideal S8x2304 .f32) (ix2 (scaleRow r) j)
      = m ((c : Thread nD τ).loc main_arg3) (ix3 (Cert.Wgrad.seq (Cert.Wgrad.tok p r)) (Cert.Wgrad.blk (Cert.Wgrad.tok p r)) j) := by
  unfold iblk
  rw [View.read_apply]
  show V m c main_v3 _ = _
  refine Eq.trans (congrArg (V m c main_v3) (a₂ := ix2 (⟨8 * p.val + r.val / 128, by omega⟩ : Fin 1200) j)
    (funext fun a => Fin.ext ?_)) ?_
  · match a with
    | ⟨0, _⟩ => show win0_3.index t 0 * 8 + 1 * (r.val / 128) = 8 * p.val + r.val / 128; rw [(index3 t).1]; omega
    | ⟨1, _⟩ => show win0_3.index t 1 * 2304 + 1 * j.val = j.val; rw [(index3 t).2]; omega
  · entry_read
    exact Cert.Wgrad.flat_scale_apply _ _ _ _ (by show 8 * p.val + r.val / 128 = (1024 * p.val + r.val) / 128; omega) _

/-- The product of block `p`, over the arguments. -/
abbrev blockSum (p : Fin 150) (i : Fin 2048) (j : Fin 2304) : EReal :=
  ∑ r : Fin 1024, Cert.Wgrad.act (m ((c : Thread nD τ).loc main_arg0)) (m ((c : Thread nD τ).loc main_arg1)) (Cert.Wgrad.tok p r) i
    * Cert.Wgrad.grad (m ((c : Thread nD τ).loc main_arg2)) (m ((c : Thread nD τ).loc main_arg3)) (Cert.Wgrad.tok p r) j

/-- What grid point `t` adds is the product of block `t` of the arguments. -/
theorem contrib_eq (t : Fin cfg0.N) (p : Fin 150) (hp : p.val = t.val) (i : Fin 2048) (j : Fin 2304) :
    contrib (iblk m c 0 t) (iblk m c 1 t) (iblk m c 2 t) (iblk m c 3 t) i j = blockSum m c p i j :=
  Finset.sum_congr rfl fun r _ => congrArg₂ (fun a b : EReal => a * b)
    (congrArg₂ (fun a b : EReal => a * b) (iblk0_apply m c t p hp r i) (iblk1_apply m c t p hp r i))
    (congrArg₂ (fun a b : EReal => a * b) (iblk2_apply m c t p hp r j) (iblk3_apply m c t p hp r j))

/-- The main gradient at `(i, j)`. -/
abbrev main (i : Fin 2048) (j : Fin 2304) : EReal := (m ((c : Thread nD τ).loc main_arg4) : Vec Ideal S2048x2304 .f32) (ix2 i j)

/-- AFTER GRID POINT `n` the accumulator is the main gradient plus the products of blocks `0` to `n`. -/
theorem acc_after (n : ℕ) (hn : n < cfg0.N) (i : Fin 2048) (j : Fin 2304) :
    (outsAt0 m c n hn).1 (ix2 i j)
      = main m c i j + ∑ p : Fin (n + 1), blockSum m c ⟨p.val, by have := N_eq; omega⟩ i j := by
  induction n with
  | zero =>
    have e := outsAt0_A m c ⟨0, hn⟩ (Nat.zero_mod _) (by show ¬0 % 150 = 149; decide)
    refine (congrFun (congrArg Prod.fst e) (ix2 i j)).trans ?_
    dsimp only
    rw [sout_A_apply]
    refine (congrArg₂ (fun a b : EReal => a + b) (congrFun (V_main_arg4 m c) (ix2 i j)) ?_)
    rw [Fin.sum_univ_one]
    exact contrib_eq m c ⟨0, hn⟩ ⟨0, by omega⟩ rfl i j
  | succ n ih =>
    have hN := N_eq
    have ihn := ih (Nat.lt_of_succ_lt hn)
    have step : (outsAt0 m c (n + 1) hn).1 (ix2 i j)
        = grown ((outsAt0 m c n (Nat.lt_of_succ_lt hn)).1 (ix2 i j)) (blockSum m c ⟨n + 1, by omega⟩ i j) := by
      by_cases h : (n + 1) % 150 = 149
      · have e := outsAt0_C m c ⟨n + 1, hn⟩ (by show ¬(n + 1) % 150 = 0; omega) h
        refine (congrFun (congrArg Prod.fst e) (ix2 i j)).trans ?_
        dsimp only
        rw [sout_C_apply]
        refine (congrArg₂ (fun a b : EReal => a + b) rfl ?_)
        exact contrib_eq m c ⟨n + 1, hn⟩ ⟨n + 1, by omega⟩ rfl i j
      · have e := outsAt0_B m c ⟨n + 1, hn⟩ (by show ¬(n + 1) % 150 = 0; omega) h
        refine (congrFun (congrArg Prod.fst e) (ix2 i j)).trans ?_
        dsimp only
        rw [sout_B_apply]
        refine (congrArg₂ (fun a b : EReal => a + b) rfl ?_)
        exact contrib_eq m c ⟨n + 1, hn⟩ ⟨n + 1, by omega⟩ rfl i j
    rw [step]
    show ((outsAt0 m c n (Nat.lt_of_succ_lt hn)).1 (ix2 i j) : EReal) + _ = _
    rw [ihn, Fin.sum_univ_castSucc (n := n + 1), add_assoc]
    rfl

/-- THE RESULT ARRAY after the run: the common form. -/
theorem result_apply (i : Fin 2048) (j : Fin 2304) :
    (hbG0 m c main_v4 : Vec Ideal S2048x2304 .f32) (ix2 i j)
      = Cert.Wgrad.result (m ((c : Thread nD τ).loc main_arg0)) (m ((c : Thread nD τ).loc main_arg1))
          (m ((c : Thread nD τ).loc main_arg2)) (m ((c : Thread nD τ).loc main_arg3)) (m ((c : Thread nD τ).loc main_arg4)) i j := by
  have hN := N_eq
  have h149 : 149 < cfg0.N := by omega
  have e1 : hbG0 m c main_v4 = (outsAt0 m c 149 h149).2 := (hbG0_1 m c).trans (by
    congr 2 <;> (rw [Fin.val_last]; omega))
  have e2 := outsAt0_C m c ⟨149, h149⟩ (by show ¬149 % 150 = 0; decide) (by show 149 % 150 = 149; decide)
  refine (congrFun (e1.trans (congrArg Prod.snd e2)) (ix2 i j)).trans ?_
  dsimp only
  rw [hbw_C_apply]
  refine (congrArg₂ (fun a b : EReal => a + b) (acc_after m c 148 (by omega) i j)
    (contrib_eq m c ⟨149, h149⟩ ⟨149, by omega⟩ rfl i j)).trans ?_
  unfold Cert.Wgrad.result
  rw [add_assoc]
  refine congrArg (fun z : EReal => main m c i j + z) ?_
  rw [← Cert.Wgrad.sum_blocks, Fin.sum_univ_castSucc (n := 149)]
  rfl

end Cert.KernelIdeal.Wgrad

end
-- ==== Proof.Reference.lean ====
/-
  Hand-written, untrusted. WHAT THE REFERENCE COMPUTES: its one contraction over sequence, scale block and token within the
  block is the sum over all tokens counted through, so its result is the common form.
-/
module

public import proofs.«01_k».proof.Proof.Spec
public import proofs.«01_k».proof.Proof.Gen.ReferenceIdeal.Value

@[expose] public section

noncomputable section

namespace Cert.ReferenceIdeal.Wgrad

open Idealize.ShloMosaic Cert.ReferenceIdeal Cert.ReferenceIdeal.Gen
open scoped BigOperators

/-- The reshaped activations at sequence `e`, block `b`, token `t`: those of the sequence's token `128 b + t`. -/
theorem split_apply {e : EltTy} {C : ℕ} (x : Vec Ideal ⟨3, ![10, 15360, C]⟩ e) (h : (⟨3, ![10, 15360, C]⟩ : Shape).ShapeCasts ⟨4, ![10, 120, 128, C]⟩)
    (a : Fin 10) (b : Fin 120) (t : Fin 128) (i : Fin C) :
    shapeCast ⟨4, ![10, 120, 128, C]⟩ x h (ix4 a b t i) = x (ix3 a (⟨b.val * 128 + t.val, by omega⟩ : Fin 15360) i) :=
  shapeCast_apply x h _ _ (by
    rw [Shape.rowMajor_val_three, Shape.rowMajor_val_four]
    show (a.val * 15360 + (b.val * 128 + t.val)) * C + i.val = ((a.val * 120 + b.val) * 128 + t.val) * C + i.val
    congr 2; omega)

/-- The scales, one for the 128 tokens of a block, at sequence `e`, block `b`, any token. -/
theorem scale_apply {C : ℕ} (hC : C ≠ 1) (s : Vec Ideal ⟨3, ![10, 120, C]⟩ .f32) (h : (⟨3, ![10, 120, C]⟩ : Shape).ShapeCasts ⟨4, ![10, 120, 1, C]⟩)
    (hl : FTy.bits .bf16 < FTy.bits .f32)
    (hb : (⟨4, ![10, 120, 1, C]⟩ : Shape).Broadcasts ⟨4, ![10, 120, 128, C]⟩) (a : Fin 10) (b : Fin 120) (t : Fin 128) (i : Fin C) :
    broadcastTo ⟨4, ![10, 120, 128, C]⟩ (truncf (F := Ideal) .bf16 (shapeCast ⟨4, ![10, 120, 1, C]⟩ s h) hl) hb (ix4 a b t i)
      = s (ix3 a b i) := by
  refine (broadcastTo_apply _ hb _ (ix4 a b (0 : Fin 1) i) (fun a => by
    match a with
    | ⟨0, _⟩ => rfl
    | ⟨1, _⟩ => rfl
    | ⟨2, _⟩ => rfl
    | ⟨3, _⟩ => exact (if_neg hC).symm)).trans ?_
  exact shapeCast_apply s h _ _ (by
    rw [Shape.rowMajor_val_three, Shape.rowMajor_val_four]
    show (a.val * 120 + b.val) * C + i.val = ((a.val * 120 + b.val) * 1 + 0) * C + i.val
    rw [Nat.mul_one, Nat.add_zero])

/-- The contraction's indices: sequence, scale block, token within the block. -/
abbrev K : Shape := (dot_S10x120x128x2048_S10x120x128x2304_S2048x2304_012_012_3_3_n_n).contr

/-- There are as many as tokens. -/
theorem numel_K : K.numel = 153600 := by decide +kernel

/-- The token of a contraction index, counted through. -/
def tokenOf : K.Idx ≃ Fin 153600 := (Shape.rowMajor K).trans (finCongr numel_K)

/-- The token in coordinates. -/
theorem tokenOf_val (k : K.Idx) :
    (tokenOf k).val = ((k (0 : Fin 3)).val * 120 + (k (1 : Fin 3)).val) * 128 + (k (2 : Fin 3)).val :=
  Shape.rowMajor_val_three (d := K.size) k

/-- THE REFERENCE'S RESULT is the common form. -/
theorem pay_apply (a0 : Vec Ideal S10x15360x2048 .fp8e4m3) (a1 : Vec Ideal S10x120x2048 .f32)
    (a2 : Vec Ideal S10x15360x2304 .fp8e5m2) (a3 : Vec Ideal S10x120x2304 .f32) (a4 : Vec Ideal S2048x2304 .f32)
    (i : Fin 2048) (j : Fin 2304) :
    k0_pay1 (F := Ideal) a0 a1 a2 a3 a4 (ix2 i j) = Cert.Wgrad.result a0 a1 a2 a3 a4 i j := by
  unfold k0_pay1 Cert.Wgrad.result
  refine congrArg (fun z : EReal => a4 (ix2 i j) + z) ?_
  have hz : (constant (F := Ideal) S2048x2304 .f32 0x00000000#32 (ix2 i j) : EReal) = 0 := by
    simp [pointwise]
  refine Eq.trans (congrArg (fun z : EReal => z + _) hz) ((zero_add _).trans ?_)
  refine Fintype.sum_equiv tokenOf _ _ fun k => ?_
  have hT := tokenOf_val k
  generalize tokenOf k = T at hT ⊢
  have h0 : (k (0 : Fin 3)).val < 10 := (k (0 : Fin 3)).isLt
  have h1 : (k (1 : Fin 3)).val < 120 := (k (1 : Fin 3)).isLt
  have h2 : (k (2 : Fin 3)).val < 128 := (k (2 : Fin 3)).isLt
  have es : (⟨(k (0 : Fin 3)).val, h0⟩ : Fin 10) = Cert.Wgrad.seq T := Fin.ext (by show (k (0 : Fin 3)).val = T.val / 15360; omega)
  have ep : (⟨(k (1 : Fin 3)).val * 128 + (k (2 : Fin 3)).val, by omega⟩ : Fin 15360) = Cert.Wgrad.pos T :=
    Fin.ext (by show (k (1 : Fin 3)).val * 128 + (k (2 : Fin 3)).val = T.val % 15360; omega)
  have eb : (⟨(k (1 : Fin 3)).val, h1⟩ : Fin 120) = Cert.Wgrad.blk T := Fin.ext (by show (k (1 : Fin 3)).val = T.val % 15360 / 128; omega)
  rw [show (dot_S10x120x128x2048_S10x120x128x2304_S2048x2304_012_012_3_3_n_n).lhsIdx (ix2 i j) k
      = ix4 (⟨_, h0⟩ : Fin 10) (⟨_, h1⟩ : Fin 120) (⟨_, h2⟩ : Fin 128) i from by funext d; fin_cases d <;> rfl,
    show (dot_S10x120x128x2048_S10x120x128x2304_S2048x2304_012_012_3_3_n_n).rhsIdx (ix2 i j) k
      = ix4 (⟨_, h0⟩ : Fin 10) (⟨_, h1⟩ : Fin 120) (⟨_, h2⟩ : Fin 128) j from by funext d; fin_cases d <;> rfl]
  refine congrArg₂ (fun a b : EReal => a * b) (congrArg₂ (fun a b : EReal => a * b) ?_ ?_)
    (congrArg₂ (fun a b : EReal => a * b) ?_ ?_)
  · refine (split_apply (e := .bf16) (extf (F := Ideal) .bf16 a0 bitsLt_fp8e4m3_bf16) _ _ _ _ i).trans ?_
    rw [es, ep]; rfl
  · refine (scale_apply (by decide) a1 _ _ _ _ _ _ i).trans ?_
    rw [es, eb]
  · refine (split_apply (e := .bf16) (extf (F := Ideal) .bf16 a2 bitsLt_fp8e5m2_bf16) _ _ _ _ j).trans ?_
    rw [es, ep]; rfl
  · refine (scale_apply (by decide) a3 _ _ _ _ _ _ j).trans ?_
    rw [es, eb]

end Cert.ReferenceIdeal.Wgrad

end
-- ==== Proof.lean ====
/-
  Hand-written, untrusted. THE PROOF of `Cert.Claim`: the frames of the three programs, that the idealized kernel is the kernel
  with its floating-point operations read over the reals extended with the infinities, and that its result equals the
  reference's. `Spec` is the common form of the two results; `Block`, `LoopValues`, `PointValues` and `Accumulate` compute the
  kernel's; `Reference` computes the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Frame
public import proofs.«01_k».proof.Proof.Accumulate
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- THE KERNEL'S RUN: the result array ends at what the last grid point left in it, the arguments as they were. -/
theorem kernel_run (m : (ℓ : Loc KernelIdeal.nD KernelIdeal.τ KernelIdeal.sig) → Buf (Elt Ideal) ℓ) (ρ : Dev KernelIdeal.nD → PrngReg) :
    θ_run KernelIdeal.defs (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v4) = KernelIdeal.Hand.hbG0 m c KernelIdeal.main_v4
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)) :=
  (θ_run _ _ _).mono (fun _ h c => ⟨h.1.written c (b := KernelIdeal.main_v4) (by decide), h.2 c⟩)
    (θ_run_and (KernelIdeal.Hand.run_main m ρ) (KernelIdeal.Hand.unchanged m ρ))

/-- THE EQUATION: the two results are the same function of the arguments. -/
theorem results_eq (m : (ℓ : Loc KernelIdeal.nD KernelIdeal.τ KernelIdeal.sig) → Buf (Elt Ideal) ℓ) (c : Dev KernelIdeal.nD) :
    (KernelIdeal.Hand.hbG0 m c KernelIdeal.main_v4 : Vec Ideal KernelIdeal.S2048x2304 .f32)
      = ReferenceIdeal.Value.G5 (F := Ideal) (m ((c.tc : Thread KernelIdeal.nD KernelIdeal.τ).loc KernelIdeal.main_arg0))
          (m ((c.tc : Thread KernelIdeal.nD KernelIdeal.τ).loc KernelIdeal.main_arg1))
          (m ((c.tc : Thread KernelIdeal.nD KernelIdeal.τ).loc KernelIdeal.main_arg2))
          (m ((c.tc : Thread KernelIdeal.nD KernelIdeal.τ).loc KernelIdeal.main_arg3))
          (m ((c.tc : Thread KernelIdeal.nD KernelIdeal.τ).loc KernelIdeal.main_arg4)) := by
  funext y
  obtain ⟨i, j, rfl⟩ : ∃ (i : Fin 2048) (j : Fin 2304), y = ix2 i j :=
    ⟨y 0, y 1, by funext a; fin_cases a <;> rfl⟩
  exact (KernelIdeal.Wgrad.result_apply m c i j).trans (ReferenceIdeal.Wgrad.pay_apply _ _ _ _ _ i j).symm

/-- THE CLAIM: the three frames, the idealized kernel read off the kernel, and the equality of the two results. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, by
  intro m ρ m' ρ' _ hag
  refine ⟨fun c => KernelIdeal.Hand.hbG0 m c KernelIdeal.main_v4, kernel_run m ρ, ?_⟩
  refine (θ_run _ _ _).mono (fun r h c => ?_) (ReferenceIdeal.Value.run m' ρ')
  obtain ⟨hv, hk⟩ := h c
  obtain ⟨e0, e1, e2, e3, e4⟩ := hag c
  refine ⟨hv.trans ?_, hk⟩
  rw [e0, e1, e2, e3, e4]
  exact (results_eq m c).symm⟩

end Cert.Proof

end
